-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v39)) (v2 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_v40) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x27648 : Shape := ⟨3, ![2, 2048, 27648]⟩
abbrev S27648 : Shape := ⟨1, ![27648]⟩
abbrev S2x2048 : Shape := ⟨2, ![2, 2048]⟩
abbrev S1x278 : Shape := ⟨2, ![1, 278]⟩
abbrev S4096x27648 : Shape := ⟨2, ![4096, 27648]⟩
abbrev S1x27648 : Shape := ⟨2, ![1, 27648]⟩
abbrev S4096x1 : Shape := ⟨2, ![4096, 1]⟩
abbrev S8x128 : Shape := ⟨2, ![8, 128]⟩
abbrev S32x27648 : Shape := ⟨2, ![32, 27648]⟩
abbrev S32x1 : Shape := ⟨2, ![32, 1]⟩
abbrev S8x27648 : Shape := ⟨2, ![8, 27648]⟩
abbrev S32x128 : Shape := ⟨2, ![32, 128]⟩
abbrev S4x8x128 : Shape := ⟨3, ![4, 8, 128]⟩
abbrev S1x128 : Shape := ⟨2, ![1, 128]⟩
abbrev S32 : Shape := ⟨1, ![32]⟩
abbrev S_ : Shape := ⟨0, ![]⟩
abbrev S1x1 : Shape := ⟨2, ![1, 1]⟩
abbrev S1 : Shape := ⟨1, ![1]⟩
abbrev S1x1x1 : Shape := ⟨3, ![1, 1, 1]⟩

abbrev nBuf : Space → Nat
  | .hbm => 67
  | .vmem => 23
  | .smem => 1
  | _ => 0

abbrev bufTy : (tb : Table) → Fin (tcTables nBuf tb) → BufTy
  | .hbm, ⟨0, _⟩ => ⟨S2x2048x27648, .bf16⟩
  | .hbm, ⟨1, _⟩ => ⟨S2x2048x27648, .bf16⟩
  | .hbm, ⟨2, _⟩ => ⟨S27648, .f32⟩
  | .hbm, ⟨3, _⟩ => ⟨S2x2048, .f32⟩
  | .hbm, ⟨4, _⟩ => ⟨S1x278, .f32⟩
  | .hbm, ⟨5, _⟩ => ⟨S1x278, .i32⟩
  | .hbm, ⟨6, _⟩ => ⟨S4096x27648, .bf16⟩
  | .hbm, ⟨7, _⟩ => ⟨S4096x27648, .bf16⟩
  | .hbm, ⟨8, _⟩ => ⟨S1x27648, .f32⟩
  | .hbm, ⟨9, _⟩ => ⟨S4096x1, .f32⟩
  | .hbm, ⟨10, _⟩ => ⟨S1x27648, .f32⟩
  | .hbm, ⟨11, _⟩ => ⟨S4096x1, .f32⟩
  | .hbm, ⟨12, _⟩ => ⟨S8x128, .f32⟩
  | .hbm, ⟨13, _⟩ => ⟨S_, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S1x1, .f32⟩
  | .hbm, ⟨18, _⟩ => ⟨S1x1, .f32⟩
  | .hbm, ⟨19, _⟩ => ⟨S1x278, .f32⟩
  | .hbm, ⟨20, _⟩ => ⟨S1x278, .i1⟩
  | .hbm, ⟨21, _⟩ => ⟨S1x278, .i32⟩
  | .hbm, ⟨22, _⟩ => ⟨S_, .i32⟩
  | .hbm, ⟨23, _⟩ => ⟨S1, .i32⟩
  | .hbm, ⟨24, _⟩ => ⟨S1x1, .i32⟩
  | .hbm, ⟨25, _⟩ => ⟨S_, .i32⟩
  | .hbm, ⟨26, _⟩ => ⟨S1x1, .i32⟩
  | .hbm, ⟨27, _⟩ => ⟨S1x1, .i32⟩
  | .hbm, ⟨28, _⟩ => ⟨S_, .f32⟩
  | .hbm, ⟨29, _⟩ => ⟨S1x1, .f32⟩
  | .hbm, ⟨30, _⟩ => ⟨S1x1, .i1⟩
  | .hbm, ⟨31, _⟩ => ⟨S_, .f32⟩
  | .hbm, ⟨32, _⟩ => ⟨S1x1, .f32⟩
  | .hbm, ⟨33, _⟩ => ⟨S1x1, .i1⟩
  | .hbm, ⟨34, _⟩ => ⟨S1x1, .i1⟩
  | .hbm, ⟨35, _⟩ => ⟨S1x1, .i32⟩
  | .hbm, ⟨36, _⟩ => ⟨S1x1, .i32⟩
  | .hbm, ⟨37, _⟩ => ⟨S_, .f32⟩
  | .hbm, ⟨38, _⟩ => ⟨S1x1, .f32⟩
  | .hbm, ⟨39, _⟩ => ⟨S1x1, .i1⟩
  | .hbm, ⟨40, _⟩ => ⟨S_, .i32⟩
  | .hbm, ⟨41, _⟩ => ⟨S_, .i32⟩
  | .hbm, ⟨42, _⟩ => ⟨S1x1, .i32⟩
  | .hbm, ⟨43, _⟩ => ⟨S1x1, .i32⟩
  | .hbm, ⟨44, _⟩ => ⟨S1x278, .i32⟩
  | .hbm, ⟨45, _⟩ => ⟨S1x278, .i1⟩
  | .hbm, ⟨46, _⟩ => ⟨S_, .f32⟩
  | .hbm, ⟨47, _⟩ => ⟨S_, .f32⟩
  | .hbm, ⟨48, _⟩ => ⟨S1x278, .f32⟩
  | .hbm, ⟨49, _⟩ => ⟨S1x278, .f32⟩
  | .hbm, ⟨50, _⟩ => ⟨S_, .f32⟩
  | .hbm, ⟨51, _⟩ => ⟨S1, .f32⟩
  | .hbm, ⟨52, _⟩ => ⟨S1x1, .f32⟩
  | .hbm, ⟨53, _⟩ => ⟨S1x1, .i32⟩
  | .hbm, ⟨54, _⟩ => ⟨S1x278, .i32⟩
  | .hbm, ⟨55, _⟩ => ⟨S1x278, .i1⟩
  | .hbm, ⟨56, _⟩ => ⟨S_, .f32⟩
  | .hbm, ⟨57, _⟩ => ⟨S_, .f32⟩
  | .hbm, ⟨58, _⟩ => ⟨S1x278, .f32⟩
  | .hbm, ⟨59, _⟩ => ⟨S1x278, .f32⟩
  | .hbm, ⟨60, _⟩ => ⟨S_, .f32⟩
  | .hbm, ⟨61, _⟩ => ⟨S1, .f32⟩
  | .hbm, ⟨62, _⟩ => ⟨S1x1, .f32⟩
  | .hbm, ⟨63, _⟩ => ⟨S4096x27648, .fp8e5m2⟩
  | .hbm, ⟨64, _⟩ => ⟨S27648, .f32⟩
  | .hbm, ⟨65, _⟩ => ⟨S2x2048x27648, .fp8e5m2⟩
  | .hbm, ⟨66, _⟩ => ⟨S1x1x1, .f32⟩
  | .local _ .vmem, ⟨0, _⟩ => ⟨S32x27648, .bf16⟩
  | .local _ .vmem, ⟨1, _⟩ => ⟨S32x27648, .bf16⟩
  | .local _ .vmem, ⟨2, _⟩ => ⟨S32x27648, .bf16⟩
  | .local _ .vmem, ⟨3, _⟩ => ⟨S32x27648, .bf16⟩
  | .local _ .vmem, ⟨4, _⟩ => ⟨S1x27648, .f32⟩
  | .local _ .vmem, ⟨5, _⟩ => ⟨S32x1, .f32⟩
  | .local _ .vmem, ⟨6, _⟩ => ⟨S32x1, .f32⟩
  | .local _ .vmem, ⟨7, _⟩ => ⟨S1x27648, .f32⟩
  | .local _ .vmem, ⟨8, _⟩ => ⟨S32x1, .f32⟩
  | .local _ .vmem, ⟨9, _⟩ => ⟨S32x1, .f32⟩
  | .local _ .vmem, ⟨10, _⟩ => ⟨S8x128, .f32⟩
  | .local _ .vmem, ⟨11, _⟩ => ⟨S8x27648, .f32⟩
  | .local _ .vmem, ⟨12, _⟩ => ⟨S32x27648, .bf16⟩
  | .local _ .vmem, ⟨13, _⟩ => ⟨S32x27648, .bf16⟩
  | .local _ .vmem, ⟨14, _⟩ => ⟨S32x27648, .bf16⟩
  | .local _ .vmem, ⟨15, _⟩ => ⟨S32x27648, .bf16⟩
  | .local _ .vmem, ⟨16, _⟩ => ⟨S1x27648, .f32⟩
  | .local _ .vmem, ⟨17, _⟩ => ⟨S32x1, .f32⟩
  | .local _ .vmem, ⟨18, _⟩ => ⟨S32x1, .f32⟩
  | .local _ .vmem, ⟨19, _⟩ => ⟨S32x1, .f32⟩
  | .local _ .vmem, ⟨20, _⟩ => ⟨S32x1, .f32⟩
  | .local _ .vmem, ⟨21, _⟩ => ⟨S32x27648, .fp8e5m2⟩
  | .local _ .vmem, ⟨22, _⟩ => ⟨S32x27648, .fp8e5m2⟩
  | .local _ .smem, ⟨0, _⟩ => ⟨S1x1, .f32⟩
  | _, _ => ⟨S2x2048x27648, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_c_7 : Ref sig .tc := ⟨.hbm, 40, rfl⟩
abbrev main_call0_v0 : Ref sig .tc := ⟨.hbm, 41, rfl⟩
abbrev main_call0_v1 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_call1_v0 : Ref sig .tc := ⟨.hbm, 47, rfl⟩
abbrev main_call1_v1 : Ref sig .tc := ⟨.hbm, 48, rfl⟩
abbrev main_v28 : Ref sig .tc := ⟨.hbm, 49, rfl⟩
abbrev main_cst_9 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_10 : Ref sig .tc := ⟨.hbm, 56, rfl⟩
abbrev main_call2_v0 : Ref sig .tc := ⟨.hbm, 57, rfl⟩
abbrev main_call2_v1 : Ref sig .tc := ⟨.hbm, 58, rfl⟩
abbrev main_v34 : Ref sig .tc := ⟨.hbm, 59, rfl⟩
abbrev main_cst_11 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem6_1 : DmaSem sig := 22

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v8656 : BitVec 1 := Scalar.cmpi .eq arg0 c127_i32
  let v8657 : BitVec 32 := Scalar.extui v8656
  let c0_i32_3683 : BitVec 32 := 0#32
  let v8658 : BitVec 1 := Scalar.cmpi .ne v8657 c0_i32_3683
  v8658

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x27648 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x27648 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x27648 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x27648 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x27648 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x27648 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x27648 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S32x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S32x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .smem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S32x27648 .fp8e5m2 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S2x2048x27648 : Shape := ⟨3, ![2, 2048, 27648]⟩
abbrev S27648 : Shape := ⟨1, ![27648]⟩
abbrev S2x2048 : Shape := ⟨2, ![2, 2048]⟩
abbrev S1x278 : Shape := ⟨2, ![1, 278]⟩
abbrev S2x2048x1 : Shape := ⟨3, ![2, 2048, 1]⟩
abbrev S1x1x27648 : Shape := ⟨3, ![1, 1, 27648]⟩
abbrev S_ : Shape := ⟨0, ![]⟩
abbrev S1x1 : Shape := ⟨2, ![1, 1]⟩
abbrev S1 : Shape := ⟨1, ![1]⟩
abbrev S1x1x1 : Shape := ⟨3, ![1, 1, 1]⟩

abbrev nBuf : Space → Nat
  | .hbm => 88
  | .vmem => 3
  | .smem => 0
  | _ => 0

abbrev bufTy : (tb : Table) → Fin (tcTables nBuf tb) → BufTy
  | .hbm, ⟨0, _⟩ => ⟨S2x2048x27648, .bf16⟩
  | .hbm, ⟨1, _⟩ => ⟨S2x2048x27648, .bf16⟩
  | .hbm, ⟨2, _⟩ => ⟨S27648, .f32⟩
  | .hbm, ⟨3, _⟩ => ⟨S2x2048, .f32⟩
  | .hbm, ⟨4, _⟩ => ⟨S1x278, .f32⟩
  | .hbm, ⟨5, _⟩ => ⟨S1x278, .f32⟩
  | .hbm, ⟨6, _⟩ => ⟨S1x278, .i32⟩
  | .hbm, ⟨7, _⟩ => ⟨S2x2048x27648, .f32⟩
  | .hbm, ⟨8, _⟩ => ⟨S2x2048x27648, .f32⟩
  | .hbm, ⟨9, _⟩ => ⟨S2x2048x1, .f32⟩
  | .hbm, ⟨10, _⟩ => ⟨S2x2048x27648, .f32⟩
  | .hbm, ⟨11, _⟩ => ⟨S2x2048x27648, .f32⟩
  | .hbm, ⟨12, _⟩ => ⟨S1x1x27648, .f32⟩
  | .hbm, ⟨13, _⟩ => ⟨S2x2048x27648, .f32⟩
  | .hbm, ⟨14, _⟩ => ⟨S2x2048x27648, .f32⟩
  | .hbm, ⟨15, _⟩ => ⟨S2x2048x27648, .f32⟩
  | .hbm, ⟨16, _⟩ => ⟨S_, .f32⟩
  | .hbm, ⟨17, _⟩ => ⟨S2x2048, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x27648, .f32⟩
  | .hbm, ⟨23, _⟩ => ⟨S2x2048x27648, .f32⟩
  | .hbm, ⟨24, _⟩ => ⟨S2x2048x27648, .f32⟩
  | .hbm, ⟨25, _⟩ => ⟨S2x2048x27648, .f32⟩
  | .hbm, ⟨26, _⟩ => ⟨S2x2048x27648, .f32⟩
  | .hbm, ⟨27, _⟩ => ⟨S2x2048x27648, .f32⟩
  | .hbm, ⟨28, _⟩ => ⟨S2x2048x27648, .f32⟩
  | .hbm, ⟨29, _⟩ => ⟨S2x2048x27648, .f32⟩
  | .hbm, ⟨30, _⟩ => ⟨S_, .f32⟩
  | .hbm, ⟨31, _⟩ => ⟨S27648, .f32⟩
  | .hbm, ⟨32, _⟩ => ⟨S2x2048x27648, .f32⟩
  | .hbm, ⟨33, _⟩ => ⟨S_, .f32⟩
  | .hbm, ⟨34, _⟩ => ⟨S_, .f32⟩
  | .hbm, ⟨35, _⟩ => ⟨S1x1, .f32⟩
  | .hbm, ⟨36, _⟩ => ⟨S_, .f32⟩
  | .hbm, ⟨37, _⟩ => ⟨S1x1, .f32⟩
  | .hbm, ⟨38, _⟩ => ⟨S1x1, .f32⟩
  | .hbm, ⟨39, _⟩ => ⟨S_, .f32⟩
  | .hbm, ⟨40, _⟩ => ⟨S1x1, .f32⟩
  | .hbm, ⟨41, _⟩ => ⟨S1x1, .i1⟩
  | .hbm, ⟨42, _⟩ => ⟨S1x278, .f32⟩
  | .hbm, ⟨43, _⟩ => ⟨S1x278, .i1⟩
  | .hbm, ⟨44, _⟩ => ⟨S1x278, .i1⟩
  | .hbm, ⟨45, _⟩ => ⟨S1x278, .i1⟩
  | .hbm, ⟨46, _⟩ => ⟨S1x278, .f32⟩
  | .hbm, ⟨47, _⟩ => ⟨S1x278, .i1⟩
  | .hbm, ⟨48, _⟩ => ⟨S1x278, .i1⟩
  | .hbm, ⟨49, _⟩ => ⟨S_, .i32⟩
  | .hbm, ⟨50, _⟩ => ⟨S_, .i32⟩
  | .hbm, ⟨51, _⟩ => ⟨S1x278, .i32⟩
  | .hbm, ⟨52, _⟩ => ⟨S1x278, .i32⟩
  | .hbm, ⟨53, _⟩ => ⟨S_, .i32⟩
  | .hbm, ⟨54, _⟩ => ⟨S1, .i32⟩
  | .hbm, ⟨55, _⟩ => ⟨S1x1, .i32⟩
  | .hbm, ⟨56, _⟩ => ⟨S_, .f32⟩
  | .hbm, ⟨57, _⟩ => ⟨S1x1, .f32⟩
  | .hbm, ⟨58, _⟩ => ⟨S1x1, .i1⟩
  | .hbm, ⟨59, _⟩ => ⟨S_, .i32⟩
  | .hbm, ⟨60, _⟩ => ⟨S_, .i32⟩
  | .hbm, ⟨61, _⟩ => ⟨S1x1, .i32⟩
  | .hbm, ⟨62, _⟩ => ⟨S1x1, .i32⟩
  | .hbm, ⟨63, _⟩ => ⟨S1x278, .i32⟩
  | .hbm, ⟨64, _⟩ => ⟨S1x278, .i1⟩
  | .hbm, ⟨65, _⟩ => ⟨S_, .f32⟩
  | .hbm, ⟨66, _⟩ => ⟨S_, .f32⟩
  | .hbm, ⟨67, _⟩ => ⟨S1x278, .f32⟩
  | .hbm, ⟨68, _⟩ => ⟨S1x278, .f32⟩
  | .hbm, ⟨69, _⟩ => ⟨S_, .f32⟩
  | .hbm, ⟨70, _⟩ => ⟨S1, .f32⟩
  | .hbm, ⟨71, _⟩ => ⟨S1x1, .f32⟩
  | .hbm, ⟨72, _⟩ => ⟨S1x1, .i32⟩
  | .hbm, ⟨73, _⟩ => ⟨S_, .i32⟩
  | .hbm, ⟨74, _⟩ => ⟨S1x1, .i32⟩
  | .hbm, ⟨75, _⟩ => ⟨S1x1, .i32⟩
  | .hbm, ⟨76, _⟩ => ⟨S1x278, .i32⟩
  | .hbm, ⟨77, _⟩ => ⟨S1x278, .i1⟩
  | .hbm, ⟨78, _⟩ => ⟨S_, .f32⟩
  | .hbm, ⟨79, _⟩ => ⟨S_, .f32⟩
  | .hbm, ⟨80, _⟩ => ⟨S1x278, .f32⟩
  | .hbm, ⟨81, _⟩ => ⟨S1x278, .f32⟩
  | .hbm, ⟨82, _⟩ => ⟨S_, .f32⟩
  | .hbm, ⟨83, _⟩ => ⟨S1, .f32⟩
  | .hbm, ⟨84, _⟩ => ⟨S1x1, .f32⟩
  | .hbm, ⟨85, _⟩ => ⟨S1x1x1, .f32⟩
  | .hbm, ⟨86, _⟩ => ⟨S1x1x1, .f32⟩
  | .hbm, ⟨87, _⟩ => ⟨S2x2048x27648, .fp8e5m2⟩
  | .local _ .vmem, ⟨0, _⟩ => ⟨S2x2048x27648, .f32⟩
  | .local _ .vmem, ⟨1, _⟩ => ⟨S1x1x1, .f32⟩
  | .local _ .vmem, ⟨2, _⟩ => ⟨S2x2048x27648, .fp8e5m2⟩
  | _, _ => ⟨S2x2048x27648, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_call0_v0 : Ref sig .tc := ⟨.hbm, 50, rfl⟩
abbrev main_call0_v1 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_c_10 : Ref sig .tc := ⟨.hbm, 59, rfl⟩
abbrev main_call1_v0 : Ref sig .tc := ⟨.hbm, 60, rfl⟩
abbrev main_call1_v1 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_11 : Ref sig .tc := ⟨.hbm, 65, rfl⟩
abbrev main_call2_v0 : Ref sig .tc := ⟨.hbm, 66, rfl⟩
abbrev main_call2_v1 : Ref sig .tc := ⟨.hbm, 67, rfl⟩
abbrev main_v44 : Ref sig .tc := ⟨.hbm, 68, rfl⟩
abbrev main_cst_12 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_13 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_14 : Ref sig .tc := ⟨.hbm, 78, rfl⟩
abbrev main_call3_v0 : Ref sig .tc := ⟨.hbm, 79, rfl⟩
abbrev main_call3_v1 : Ref sig .tc := ⟨.hbm, 80, rfl⟩
abbrev main_v52 : Ref sig .tc := ⟨.hbm, 81, rfl⟩
abbrev main_cst_15 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x2048x27648 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048x27648 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.K.Body.lean ====
module

public import Idealize.ShloMosaic.Lib.Pipeline
public import Idealize.ShloMosaic.Lib.Scf
public import Idealize.ShloMosaic.Lib.Sig
public import Idealize.ShloMosaic.Lib.StableHlo
public import Idealize.ShloMosaic.PureOps

/-!
The two kernel bodies written as loops over the 216 lane tiles of a row block. The printed bodies are these loops
unrolled.
-/

@[expose] public section

noncomputable section

namespace K

open Idealize.ShloMosaic Idealize.SL.Sem

/-- The shape of a block of 32 rows of x or dy. -/
abbrev S32x27648 : Shape := ⟨2, ![32, 27648]⟩
/-- The shape of gamma, or dgamma, as a row. -/
abbrev S1x27648 : Shape := ⟨2, ![1, 27648]⟩
/-- The shape of dgamma's eight partial rows. -/
abbrev S8x27648 : Shape := ⟨2, ![8, 27648]⟩
/-- The shape of a row without its first axis. -/
abbrev S27648 : Shape := ⟨1, ![27648]⟩
/-- The shape of a tile of 32 rows. -/
abbrev S32x128 : Shape := ⟨2, ![32, 128]⟩
/-- The shape of a tile of one row. -/
abbrev S1x128 : Shape := ⟨2, ![1, 128]⟩
/-- The shape of a tile of eight rows. -/
abbrev S8x128 : Shape := ⟨2, ![8, 128]⟩
/-- The shape of a tile of 32 rows in four groups of eight. -/
abbrev S4x8x128 : Shape := ⟨3, ![4, 8, 128]⟩
/-- The shape of one number for each of 32 rows. -/
abbrev S32x1 : Shape := ⟨2, ![32, 1]⟩
/-- The shape of the same without the second axis. -/
abbrev S32 : Shape := ⟨1, ![32]⟩
/-- The shape of one number. -/
abbrev S1x1 : Shape := ⟨2, ![1, 1]⟩

/-- A step run for the last `n` of the first `hi` tiles, in order, on a carried value. -/
def chain {N : Nat} {E : Type → Type*} {α : Type} (step : Fin N → α → Prog E α) (hi : Nat) (hN : hi ≤ N) (n : Nat) :
    n ≤ hi → α → Prog E α :=
  Nat.rec (motive := fun n => n ≤ hi → α → Prog E α) (fun _ a => .ret a)
    (fun n ih h a => step ⟨hi - (n + 1), by omega⟩ a >>= fun a' => ih (by omega) a') n

/-- Tile `j`'s 128 lanes of a buffer of `m` rows lie inside the buffer. -/
theorem tile_inb (m : Nat) (j : Fin 216) :
    ∀ a, (![0, 128 * j.val] : Fin 2 → Nat) a + (![m, 128] : Fin 2 → Nat) a ≤ (![m, 27648] : Fin 2 → Nat) a := by
  intro a
  have := j.isLt
  match a with
  | 0 => simp
  | 1 => simp; omega

/-- Tile `j` of a buffer of 32 rows. -/
abbrev tile32 (j : Fin 216) : Rect S32x27648 := Rect.unit (s := S32x27648) ![0, 128 * j.val] S32x128.size (tile_inb 32 j)
/-- Tile `j` of the one row of gamma. -/
abbrev tile1 (j : Fin 216) : Rect S1x27648 := Rect.unit (s := S1x27648) ![0, 128 * j.val] S1x128.size (tile_inb 1 j)
/-- Tile `j` of the eight partial rows of dgamma. -/
abbrev tile8 (j : Fin 216) : Rect S8x27648 := Rect.unit (s := S8x27648) ![0, 128 * j.val] S8x128.size (tile_inb 8 j)

/-- A tile of 32 rows is whole words of four e5m2 codes. -/
theorem tile32_packed (j : Fin 216) : (tile32 j).PackedRows (EltTy.packing .fp8e5m2) :=
  .inr ⟨by decide, rfl, .inl ⟨⟨0, rfl⟩, ⟨8, rfl⟩⟩⟩

/-- A 32x128 array has elements. -/
theorem pos32x128 : 0 < S32x128.numel := by decide
/-- A 1x128 array has elements. -/
theorem pos1x128 : 0 < S1x128.numel := by decide
/-- A 8x128 array has elements. -/
theorem pos8x128 : 0 < S8x128.numel := by decide
/-- A 32x1 array has elements. -/
theorem pos32x1 : 0 < S32x1.numel := by decide
/-- A 8x27648 array has elements. -/
theorem pos8x27648 : 0 < S8x27648.numel := by decide
/-- A 1x27648 array has elements. -/
theorem pos1x27648 : 0 < S1x27648.numel := by decide

/-- The whole of a buffer of each shape the bodies touch whole. -/
abbrev all32x1 : Rect S32x1 := Rect.unit (s := S32x1) ![0, 0] S32x1.size (by decide)
/-- The whole of a 8x128 buffer. -/
abbrev all8x128 : Rect S8x128 := Rect.unit (s := S8x128) ![0, 0] S8x128.size (by decide)
/-- The whole of a 8x27648 buffer. -/
abbrev all8x27648 : Rect S8x27648 := Rect.unit (s := S8x27648) ![0, 0] S8x27648.size (by decide)
/-- The whole of a 1x27648 buffer. -/
abbrev all1x27648 : Rect S1x27648 := Rect.unit (s := S1x27648) ![0, 0] S1x27648.size (by decide)
/-- The whole of a 1x1 buffer. -/
abbrev all1x1 : Rect S1x1 := Rect.unit (s := S1x1) ![0, 0] S1x1.size (by decide)

variable {F : FTy → Type} [FloatOps F]

/-! ## What a tile computes -/

/-- `dy * rstd` on a tile. -/
def dyr (r : FVec F S32x1 .f32) (dy : FVec F S32x128 .bf16) : FVec F S32x128 .f32 :=
  mulf (extf .f32 (shapeCast S32x128 dy (by decide)) (by decide)) (broadcastTo S32x128 r (by decide))

/-- A tile of `gamma`, repeated down the rows. -/
def gam (g : FVec F S1x128 .f32) : FVec F S32x128 .f32 :=
  broadcastTo S32x128 (shapeCast S1x128 g (by decide)) (by decide)

/-- A tile of `x` in f32. -/
def x32 (x : FVec F S32x128 .bf16) : FVec F S32x128 .f32 :=
  extf .f32 (shapeCast S32x128 x (by decide)) (by decide)

/-- `dy * rstd * x` on a tile: the terms of dgamma, and of the mean before gamma. -/
def prodT (r : FVec F S32x1 .f32) (dy x : FVec F S32x128 .bf16) : FVec F S32x128 .f32 :=
  mulf (dyr r dy) (x32 x)

/-- The partial rows of dgamma with a tile's terms added: the 32 rows go four to each partial row. -/
def accT (q : FVec F S32x128 .f32) (acc : FVec F S8x128 .f32) : FVec F S8x128 .f32 :=
  addf acc (multiReduction .add [0] S8x128 (shapeCast S4x8x128 q (by decide)) 0x00000000#32 (by decide) (.inl rfl) rfl)

/-- The lane-wise partial sums of the mean after a tile. -/
def sumT (q : FVec F S32x128 .f32) (g : FVec F S1x128 .f32) (s : FVec F S32x128 .f32) : FVec F S32x128 .f32 :=
  addf s (mulf q (gam g))

/-- The mean, from the lane-wise partial sums. -/
def meanOf (s : FVec F S32x128 .f32) : FVec F S32x1 .f32 :=
  mulf (shapeCast S32x1 (multiReduction .add [1] S32 s 0x00000000#32 (by decide) (.inl rfl) rfl) (by decide))
    (broadcast S32x1 (Scalar.ofBits .f32 0x3817B426#32))

/-- `dx` on a tile, `b` being `rstd * (rstd * c)`. -/
def dxT (r b : FVec F S32x1 .f32) (dy x : FVec F S32x128 .bf16) (g : FVec F S1x128 .f32) : FVec F S32x128 .f32 :=
  subf (mulf (dyr r dy) (gam g)) (mulf (x32 x) (broadcastTo S32x128 b (by decide)))

/-- The partial maxima of |dx| after a tile. -/
def maxT (r b : FVec F S32x1 .f32) (dy x : FVec F S32x128 .bf16) (g : FVec F S1x128 .f32) (m : FVec F S8x128 .f32) :
    FVec F S8x128 .f32 :=
  maximumf m (multiReduction .maximumf [0] S8x128 (shapeCast S4x8x128 (absf (dxT r b dy x g)) (by decide)) 0xFF800000#32
    (by decide) (.inl rfl) rfl)

/-- The codes of a tile: `dx * inv`, clipped and rounded to e5m2. -/
def codeT (r b : FVec F S32x1 .f32) (inv : F .f32) (dy x : FVec F S32x128 .bf16) (g : FVec F S1x128 .f32) :
    FVec F S32x128 .fp8e5m2 :=
  truncf .fp8e5m2
    (minimumf (broadcast S32x128 (Scalar.ofBits .f32 0x47600000#32))
      (maximumf (broadcast S32x128 (Scalar.ofBits .f32 0xC7600000#32)) (mulf (dxT r b dy x g) (broadcast S32x128 inv))))
    (by decide)

/-- dgamma, from its eight partial rows. -/
def dgammaOf (acc : FVec F S8x27648 .f32) : FVec F S1x27648 .f32 :=
  shapeCast S1x27648 (multiReduction .add [0] S27648 acc 0x00000000#32 (by decide) (.inl rfl) rfl) (by decide)

/-! ## The bodies -/

variable {nD : Nat} {τ : Topo} {sig : RefSig} {Λ : Labels}

/-- One tile of the first loop as far as the sum it will store. -/
def sumStepA (arg1 arg2 : Memref sig .tc .vmem S32x27648 .bf16) (arg8 : Memref sig .tc .vmem S8x27648 .f32)
    (r : FVec F S32x1 .f32) (j : Fin 216) :
    Prog (TpuEff nD τ sig (Elt F) Λ .tc) (FVec F S32x128 .f32 × FVec F S8x128 .f32 × FVec F S8x128 .f32) := do
  let dy : Vec F S32x128 .bf16 ← Prog.lift (.load arg2 (tile32 j).toLoadRect (View.loadsAt_vmem pos32x128))
  let x : Vec F S32x128 .bf16 ← Prog.lift (.load arg1 (tile32 j).toLoadRect (View.loadsAt_vmem pos32x128))
  let acc : Vec F S8x128 .f32 ← Prog.lift (.load arg8 (tile8 j).toLoadRect (View.loadsAt_vmem pos8x128))
  let acc' : Vec F S8x128 .f32 ← Prog.lift (.load arg8 (tile8 j).toLoadRect (View.loadsAt_vmem pos8x128))
  pure (prodT r dy x, accT (prodT r dy x) acc, acc')

/-- The rest of a tile of the first loop: the sum stored, the mean's partial sums taken on. -/
def sumStepB (arg3 : Memref sig .tc .vmem S1x27648 .f32) (arg8 : Memref sig .tc .vmem S8x27648 .f32) (j : Fin 216)
    (q : FVec F S32x128 .f32) (acc : FVec F S8x128 .f32) (s : FVec F S32x128 .f32) :
    Prog (TpuEff nD τ sig (Elt F) Λ .tc) (FVec F S32x128 .f32) := do
  Prog.lift (.store arg8 (tile8 j) (shapeCast S8x128 acc (by decide)) Finset.univ (View.stores_vmem_bits_univ pos8x128 rfl) (.inl rfl))
  let g : Vec F S1x128 .f32 ← Prog.lift (.load arg3 (tile1 j).toLoadRect (View.loadsAt_vmem pos1x128))
  pure (sumT q g s)

/-- One tile of the first loop: its terms into dgamma's partial rows and the mean's partial sums. -/
def sumStep (arg1 arg2 : Memref sig .tc .vmem S32x27648 .bf16) (arg3 : Memref sig .tc .vmem S1x27648 .f32)
    (arg8 : Memref sig .tc .vmem S8x27648 .f32) (r : FVec F S32x1 .f32) (j : Fin 216) (s : FVec F S32x128 .f32) :
    Prog (TpuEff nD τ sig (Elt F) Λ .tc) (FVec F S32x128 .f32) := do
  let p ← sumStepA arg1 arg2 arg8 r j
  sumStepB arg3 arg8 j p.1 p.2.1 s

/-- `dy * rstd * gamma` on a tile. -/
def dyrg (r : FVec F S32x1 .f32) (dy : FVec F S32x128 .bf16) (g : FVec F S1x128 .f32) : FVec F S32x128 .f32 :=
  mulf (dyr r dy) (gam g)

/-- The partial maxima of |dx| after a tile, from `dy * rstd * gamma` and `x` on it. -/
def maxT' (b : FVec F S32x1 .f32) (u : FVec F S32x128 .f32) (x : FVec F S32x128 .bf16) (m : FVec F S8x128 .f32) :
    FVec F S8x128 .f32 :=
  maximumf m (multiReduction .maximumf [0] S8x128
    (shapeCast S4x8x128 (absf (subf u (mulf (extf .f32 x (by decide)) (broadcastTo S32x128 b (by decide))))) (by decide)) 0xFF800000#32
    (by decide) (.inl rfl) rfl)

/-- One tile of the second loop: its |dx| into the partial maxima. -/
def maxStep (arg1 arg2 : Memref sig .tc .vmem S32x27648 .bf16) (arg3 : Memref sig .tc .vmem S1x27648 .f32)
    (r b : FVec F S32x1 .f32) (j : Fin 216) (m : FVec F S8x128 .f32) :
    Prog (TpuEff nD τ sig (Elt F) Λ .tc) (FVec F S8x128 .f32) := do
  let dy : Vec F S32x128 .bf16 ← Prog.lift (.load arg2 (tile32 j).toLoadRect (View.loadsAt_vmem pos32x128))
  let g : Vec F S1x128 .f32 ← Prog.lift (.load arg3 (tile1 j).toLoadRect (View.loadsAt_vmem pos1x128))
  let x : Vec F S32x128 .bf16 ← Prog.lift (.load arg1 (tile32 j).toLoadRect (View.loadsAt_vmem pos32x128))
  pure (maxT r b dy x g m)

/-- One tile of the quantiser: its codes stored. -/
def codeStep (arg1 arg2 : Memref sig .tc .vmem S32x27648 .bf16) (arg3 : Memref sig .tc .vmem S1x27648 .f32)
    (arg7 : Memref sig .tc .vmem S32x27648 .fp8e5m2) (h7 : arg7.IsWhole) (r b : FVec F S32x1 .f32) (inv : F .f32) (j : Fin 216)
    (_ : PUnit) : Prog (TpuEff nD τ sig (Elt F) Λ .tc) PUnit := do
  let dy : Vec F S32x128 .bf16 ← Prog.lift (.load arg2 (tile32 j).toLoadRect (View.loadsAt_vmem pos32x128))
  let g : Vec F S1x128 .f32 ← Prog.lift (.load arg3 (tile1 j).toLoadRect (View.loadsAt_vmem pos1x128))
  let x : Vec F S32x128 .bf16 ← Prog.lift (.load arg1 (tile32 j).toLoadRect (View.loadsAt_vmem pos32x128))
  let _ : Vec F S32x128 .fp8e5m2 ← Prog.lift (.load arg7 (tile32 j).toLoadRect (View.loadsAt_vmem pos32x128))
  Prog.lift (.store arg7 (tile32 j) (codeT r b inv dy x g) Finset.univ
    (View.stores_vmem pos32x128 (h7.storeExact_slice rfl _ (tile32_packed j)) (fun _ => rfl)) (.inl rfl))

/-- At the first block the accumulators are filled with zeros. -/
def zeroFill (first : BitVec 1) (arg7 : Memref sig .tc .vmem S8x128 .f32) (arg8 : Memref sig .tc .vmem S8x27648 .f32) :
    Prog (TpuEff nD τ sig (Elt F) Λ .tc) PUnit := do
  if _h1 : first = 1#1 then do
    let _ : Vec F S8x27648 .f32 ← Prog.lift (.load arg8 all8x27648.toLoadRect (View.loadsAt_vmem pos8x27648))
    Prog.lift (.store arg8 all8x27648
      (shapeCast S8x27648 (broadcast S8x27648 (Scalar.ofBits .f32 0x00000000#32) : FVec F S8x27648 .f32) (by decide))
      Finset.univ (View.stores_vmem_bits_univ pos8x27648 rfl) (.inl rfl))
    let _ : Vec F S8x128 .f32 ← Prog.lift (.load arg7 all8x128.toLoadRect (View.loadsAt_vmem pos8x128))
    Prog.lift (.store arg7 all8x128 (broadcast S8x128 (Scalar.ofBits .f32 0x00000000#32) : FVec F S8x128 .f32)
      Finset.univ (View.stores_vmem_bits_univ pos8x128 rfl) (.inl rfl))
    pure ⟨⟩
  else do
    pure ⟨⟩

/-- At the last block dgamma is the sum of its eight partial rows. -/
def finish (last : BitVec 1) (arg5 : Memref sig .tc .vmem S1x27648 .f32) (arg8 : Memref sig .tc .vmem S8x27648 .f32) :
    Prog (TpuEff nD τ sig (Elt F) Λ .tc) PUnit := do
  if _h2 : last = 1#1 then do
    let acc : Vec F S8x27648 .f32 ← Prog.lift (.load arg8 all8x27648.toLoadRect (View.loadsAt_vmem pos8x27648))
    let _ : Vec F S1x27648 .f32 ← Prog.lift (.load arg5 all1x27648.toLoadRect (View.loadsAt_vmem pos1x27648))
    Prog.lift (.store arg5 all1x27648 (dgammaOf acc) Finset.univ (View.stores_vmem_bits_univ pos1x27648 rfl) (.inl rfl))
    pure ⟨⟩
  else do
    pure ⟨⟩
  pure ⟨⟩

/-- The mean stored, and the partial maxima so far loaded. -/
def midStep (arg6 : Memref sig .tc .vmem S32x1 .f32) (arg7 : Memref sig .tc .vmem S8x128 .f32) (s : FVec F S32x128 .f32) :
    Prog (TpuEff nD τ sig (Elt F) Λ .tc) (FVec F S8x128 .f32) := do
  let _ : Vec F S32x1 .f32 ← Prog.lift (.load arg6 all32x1.toLoadRect (View.loadsAt_vmem pos32x1))
  Prog.lift (.store arg6 all32x1 (meanOf s) Finset.univ (View.stores_vmem_bits_univ pos32x1 rfl) (.inl rfl))
  let m0 : Vec F S8x128 .f32 ← Prog.lift (.load arg7 all8x128.toLoadRect (View.loadsAt_vmem pos8x128))
  pure (shapeCast S8x128 m0 (by decide))

/-- The partial maxima stored, and dgamma at the last block. -/
def endStep (last : BitVec 1) (arg5 : Memref sig .tc .vmem S1x27648 .f32) (arg7 : Memref sig .tc .vmem S8x128 .f32)
    (arg8 : Memref sig .tc .vmem S8x27648 .f32) (m : FVec F S8x128 .f32) :
    Prog (TpuEff nD τ sig (Elt F) Λ .tc) PUnit := do
  let _ : Vec F S8x128 .f32 ← Prog.lift (.load arg7 all8x128.toLoadRect (View.loadsAt_vmem pos8x128))
  Prog.lift (.store arg7 all8x128 m Finset.univ (View.stores_vmem_bits_univ pos8x128 rfl) (.inl rfl))
  finish last arg5 arg8

/-- `rstd * (rstd * c)`, what `x` is multiplied by. -/
def rrc (r c : FVec F S32x1 .f32) : FVec F S32x1 .f32 := mulf r (mulf r c)

/-- The first pallas_call's body: `first` and `last` say whether the block is the first or the last. -/
def reduceBody (first last : BitVec 1) (arg1 arg2 : Memref sig .tc .vmem S32x27648 .bf16)
    (arg3 : Memref sig .tc .vmem S1x27648 .f32) (arg4 : Memref sig .tc .vmem S32x1 .f32)
    (arg5 : Memref sig .tc .vmem S1x27648 .f32) (arg6 : Memref sig .tc .vmem S32x1 .f32)
    (arg7 : Memref sig .tc .vmem S8x128 .f32) (arg8 : Memref sig .tc .vmem S8x27648 .f32) :
    Prog (TpuEff nD τ sig (Elt F) Λ .tc) PUnit := do
  let _ ← zeroFill first arg7 arg8
  let r0 : Vec F S32x1 .f32 ← Prog.lift (.load arg4 all32x1.toLoadRect (View.loadsAt_vmem pos32x1))
  let s ← chain (sumStep arg1 arg2 arg3 arg8 (shapeCast S32x1 r0 (by decide))) 216 le_rfl 216 le_rfl
    (broadcast S32x128 (Scalar.ofBits .f32 0x00000000#32))
  let m0 ← midStep arg6 arg7 s
  let m ← chain (maxStep arg1 arg2 arg3 (shapeCast S32x1 r0 (by decide)) (rrc (shapeCast S32x1 r0 (by decide)) (meanOf s)))
    216 le_rfl 216 le_rfl m0
  endStep last arg5 arg7 arg8 m

/-! The first body again, cut where the printed one is cut: inside tile 108 of the first loop, inside tile 1 of the
second, and inside tile 140 of it. -/

/-- The body up to inside tile 108 of the first loop. -/
def cut1 (first : BitVec 1) (arg0 : BitVec 32) (arg1 arg2 : Memref sig .tc .vmem S32x27648 .bf16)
    (arg3 : Memref sig .tc .vmem S1x27648 .f32) (arg4 : Memref sig .tc .vmem S32x1 .f32)
    (arg7 : Memref sig .tc .vmem S8x128 .f32) (arg8 : Memref sig .tc .vmem S8x27648 .f32) :
    Prog (TpuEff nD τ sig (Elt F) Λ .tc) (Σ' (_ : BitVec 32) (_ : FVec F S32x1 .f32) (_ : FVec F S32x128 .f32)
      (_ : FVec F S32x128 .f32) (_ : FVec F S8x128 .f32), Vec F S8x128 .f32) := do
  let _ ← zeroFill first arg7 arg8
  let r0 : Vec F S32x1 .f32 ← Prog.lift (.load arg4 all32x1.toLoadRect (View.loadsAt_vmem pos32x1))
  let s ← chain (sumStep arg1 arg2 arg3 arg8 (shapeCast S32x1 r0 (by decide))) 108 (by decide) 108 le_rfl
    (broadcast S32x128 (Scalar.ofBits .f32 0x00000000#32))
  let p ← sumStepA arg1 arg2 arg8 (shapeCast S32x1 r0 (by decide)) 108
  pure ⟨arg0, shapeCast S32x1 r0 (by decide), s, p.1, p.2.1, p.2.2⟩

/-- On to inside tile 1 of the second loop. -/
def cut2 (arg1 arg2 : Memref sig .tc .vmem S32x27648 .bf16) (arg3 : Memref sig .tc .vmem S1x27648 .f32)
    (arg6 : Memref sig .tc .vmem S32x1 .f32) (arg7 : Memref sig .tc .vmem S8x128 .f32) (arg8 : Memref sig .tc .vmem S8x27648 .f32)
    (r : FVec F S32x1 .f32) (s q : FVec F S32x128 .f32) (acc : FVec F S8x128 .f32) :
    Prog (TpuEff nD τ sig (Elt F) Λ .tc) (Σ' (_ : FVec F S32x1 .f32) (_ : FVec F S8x128 .f32) (_ : FVec F S32x128 .f32),
      FVec F S32x128 .bf16) := do
  let s ← sumStepB arg3 arg8 108 q acc s
  let s ← chain (sumStep arg1 arg2 arg3 arg8 r) 216 le_rfl 107 (by decide) s
  let m0 ← midStep arg6 arg7 s
  let m ← maxStep arg1 arg2 arg3 r (rrc r (meanOf s)) 0 m0
  let dy : Vec F S32x128 .bf16 ← Prog.lift (.load arg2 (tile32 1).toLoadRect (View.loadsAt_vmem pos32x128))
  let g : Vec F S1x128 .f32 ← Prog.lift (.load arg3 (tile1 1).toLoadRect (View.loadsAt_vmem pos1x128))
  let x : Vec F S32x128 .bf16 ← Prog.lift (.load arg1 (tile32 1).toLoadRect (View.loadsAt_vmem pos32x128))
  pure ⟨rrc r (meanOf s), m, dyrg r dy g, shapeCast S32x128 x (by decide)⟩

/-- On to inside tile 140 of the second loop. -/
def cut3 (arg1 arg2 : Memref sig .tc .vmem S32x27648 .bf16) (arg3 : Memref sig .tc .vmem S1x27648 .f32)
    (r b : FVec F S32x1 .f32) (m : FVec F S8x128 .f32) (u : FVec F S32x128 .f32) (x : FVec F S32x128 .bf16) :
    Prog (TpuEff nD τ sig (Elt F) Λ .tc) (Σ' (_ : FVec F S8x128 .f32), Vec F S32x128 .bf16) := do
  let m ← chain (maxStep arg1 arg2 arg3 r b) 140 (by decide) 138 (by decide) (maxT' b u x m)
  let dy : Vec F S32x128 .bf16 ← Prog.lift (.load arg2 (tile32 140).toLoadRect (View.loadsAt_vmem pos32x128))
  pure ⟨m, dy⟩

/-- The rest. -/
def cut4 (last : BitVec 1) (arg1 arg2 : Memref sig .tc .vmem S32x27648 .bf16) (arg3 : Memref sig .tc .vmem S1x27648 .f32)
    (arg5 : Memref sig .tc .vmem S1x27648 .f32) (arg7 : Memref sig .tc .vmem S8x128 .f32) (arg8 : Memref sig .tc .vmem S8x27648 .f32)
    (r b : FVec F S32x1 .f32) (m : FVec F S8x128 .f32) (dy : FVec F S32x128 .bf16) :
    Prog (TpuEff nD τ sig (Elt F) Λ .tc) PUnit := do
  let g : Vec F S1x128 .f32 ← Prog.lift (.load arg3 (tile1 140).toLoadRect (View.loadsAt_vmem pos1x128))
  let x : Vec F S32x128 .bf16 ← Prog.lift (.load arg1 (tile32 140).toLoadRect (View.loadsAt_vmem pos32x128))
  let m ← chain (maxStep arg1 arg2 arg3 r b) 216 le_rfl 75 (by decide) (maxT r b dy x g m)
  endStep last arg5 arg7 arg8 m

/-- The four cuts in order. -/
def cutBody (first last : BitVec 1) (arg0 : BitVec 32) (arg1 arg2 : Memref sig .tc .vmem S32x27648 .bf16)
    (arg3 : Memref sig .tc .vmem S1x27648 .f32) (arg4 : Memref sig .tc .vmem S32x1 .f32)
    (arg5 : Memref sig .tc .vmem S1x27648 .f32) (arg6 : Memref sig .tc .vmem S32x1 .f32)
    (arg7 : Memref sig .tc .vmem S8x128 .f32) (arg8 : Memref sig .tc .vmem S8x27648 .f32) :
    Prog (TpuEff nD τ sig (Elt F) Λ .tc) PUnit := do
  let p ← cut1 first arg0 arg1 arg2 arg3 arg4 arg7 arg8
  let q ← cut2 arg1 arg2 arg3 arg6 arg7 arg8 p.2.1 p.2.2.1 p.2.2.2.1 p.2.2.2.2.1
  let m ← cut3 arg1 arg2 arg3 p.2.1 q.1 q.2.1 q.2.2.1 q.2.2.2
  cut4 last arg1 arg2 arg3 arg5 arg7 arg8 p.2.1 q.1 m.1 m.2

/-- A chain of `n + 1` steps is a step and a chain of `n`. -/
theorem chain_succ {N : Nat} {E : Type → Type*} {α : Type} (step : Fin N → α → Prog E α) (hi : Nat) (hN : hi ≤ N) (n : Nat)
    (h : n + 1 ≤ hi) (j : Fin N) (hj : j.val = hi - (n + 1)) (a : α) :
    chain step hi hN (n + 1) h a = step j a >>= fun a' => chain step hi hN n (Nat.le_of_succ_le h) a' := by
  obtain ⟨j, hj'⟩ := j
  subst hj
  rfl

/-- Running a chain to `hi` is running it to a smaller bound, then on to `hi`. -/
theorem chain_split {N : Nat} {E : Type → Type*} {α : Type} (step : Fin N → α → Prog E α) (hi lo k : Nat) (hN : hi ≤ N)
    (hl : hi = lo + k) :
    ∀ (n : Nat) (h : n ≤ lo) (m : Nat) (_ : m = n + k) (h' : m ≤ hi) (a : α),
      chain step hi hN m h' a
        = chain step lo (by omega) n h a >>= fun a' => chain step hi hN k (by omega) a' := by
  intro n
  induction n with
  | zero =>
    intro h m e h' a
    obtain rfl : m = k := by omega
    rfl
  | succ n ih =>
    intro h m e h' a
    obtain rfl : m = (n + k) + 1 := by omega
    rw [chain_succ step hi hN (n + k) h' ⟨lo - (n + 1), by omega⟩ (by show lo - (n + 1) = _; omega),
      chain_succ step lo _ n h ⟨lo - (n + 1), by omega⟩ rfl, Prog.bind_assoc]
    congr 1
    funext a'
    exact ih _ _ rfl _ a'

/-- Cutting the first body changes nothing. -/
theorem cutBody_eq (first last : BitVec 1) (arg0 : BitVec 32) (arg1 arg2 : Memref sig .tc .vmem S32x27648 .bf16)
    (arg3 : Memref sig .tc .vmem S1x27648 .f32) (arg4 : Memref sig .tc .vmem S32x1 .f32)
    (arg5 : Memref sig .tc .vmem S1x27648 .f32) (arg6 : Memref sig .tc .vmem S32x1 .f32)
    (arg7 : Memref sig .tc .vmem S8x128 .f32) (arg8 : Memref sig .tc .vmem S8x27648 .f32) :
    cutBody (F := F) (nD := nD) (τ := τ) (Λ := Λ) first last arg0 arg1 arg2 arg3 arg4 arg5 arg6 arg7 arg8
      = reduceBody first last arg1 arg2 arg3 arg4 arg5 arg6 arg7 arg8 := by
  have hs : ∀ (r : FVec F S32x1 .f32) (s : FVec F S32x128 .f32),
      chain (sumStep (nD := nD) (τ := τ) (Λ := Λ) arg1 arg2 arg3 arg8 r) 216 le_rfl 216 le_rfl s
        = chain (sumStep arg1 arg2 arg3 arg8 r) 108 (by decide) 108 le_rfl s >>= fun s =>
          sumStep arg1 arg2 arg3 arg8 r 108 s >>= fun s => chain (sumStep arg1 arg2 arg3 arg8 r) 216 le_rfl 107 (by decide) s := by
    intro r s
    rw [chain_split _ 216 108 108 le_rfl rfl 108 le_rfl 216 rfl]
    exact bind_congr fun s => chain_succ _ 216 _ 107 _ 108 rfl s
  have hm : ∀ (r b : FVec F S32x1 .f32) (m : FVec F S8x128 .f32),
      chain (maxStep (nD := nD) (τ := τ) (Λ := Λ) arg1 arg2 arg3 r b) 216 le_rfl 216 le_rfl m
        = maxStep arg1 arg2 arg3 r b 0 m >>= fun m => maxStep arg1 arg2 arg3 r b 1 m >>= fun m =>
          chain (maxStep arg1 arg2 arg3 r b) 140 (by decide) 138 (by decide) m >>= fun m =>
          maxStep arg1 arg2 arg3 r b 140 m >>= fun m => chain (maxStep arg1 arg2 arg3 r b) 216 le_rfl 75 (by decide) m := by
    intro r b m
    rw [chain_split _ 216 140 76 le_rfl rfl 140 le_rfl 216 rfl, chain_succ _ 140 _ 139 _ 0 rfl, Prog.bind_assoc]
    refine bind_congr fun m => ?_
    rw [chain_succ _ 140 _ 138 _ 1 rfl, Prog.bind_assoc]
    refine bind_congr fun m => bind_congr fun m => ?_
    exact chain_succ _ 216 _ 75 _ 140 rfl m
  unfold cutBody reduceBody cut1 cut2 cut3 cut4
  rw [Prog.bind_assoc]
  refine bind_congr fun _ => ?_
  rw [Prog.bind_assoc]
  refine bind_congr fun r0 => ?_
  rw [hs, Prog.bind_assoc, Prog.bind_assoc]
  refine bind_congr fun s => ?_
  have hS : ∀ r j s, sumStep (nD := nD) (τ := τ) (Λ := Λ) arg1 arg2 arg3 arg8 r j s
      = sumStepA (F := F) arg1 arg2 arg8 r j >>= fun p => sumStepB arg3 arg8 j p.1 p.2.1 s := fun _ _ _ => rfl
  have hM : ∀ r b j m, maxStep (F := F) (nD := nD) (τ := τ) (Λ := Λ) arg1 arg2 arg3 r b j m
      = (do
        let dy : Vec F S32x128 .bf16 ← Prog.lift (.load arg2 (tile32 j).toLoadRect (View.loadsAt_vmem pos32x128))
        let g : Vec F S1x128 .f32 ← Prog.lift (.load arg3 (tile1 j).toLoadRect (View.loadsAt_vmem pos1x128))
        let x : Vec F S32x128 .bf16 ← Prog.lift (.load arg1 (tile32 j).toLoadRect (View.loadsAt_vmem pos32x128))
        pure (maxT r b dy x g m)) := fun _ _ _ _ => rfl
  simp only [hS, hm, hM, Prog.bind_assoc, pure_bind]
  rfl

/-- The second pallas_call's body. -/
def quantBody (arg1 arg2 : Memref sig .tc .vmem S32x27648 .bf16)
    (arg3 : Memref sig .tc .vmem S1x27648 .f32) (arg4 arg5 : Memref sig .tc .vmem S32x1 .f32)
    (arg6 : Memref sig .tc .smem S1x1 .f32) (arg7 : Memref sig .tc .vmem S32x27648 .fp8e5m2) (h7 : arg7.IsWhole) :
    Prog (TpuEff nD τ sig (Elt F) Λ .tc) PUnit := do
  let r0 : Vec F S32x1 .f32 ← Prog.lift (.load arg4 all32x1.toLoadRect (View.loadsAt_vmem pos32x1))
  let c0 : Vec F S32x1 .f32 ← Prog.lift (.load arg5 all32x1.toLoadRect (View.loadsAt_vmem pos32x1))
  let inv : Elt F .f32 ← smemLoad arg6 all1x1 (by decide) rfl
  chain (codeStep arg1 arg2 arg3 arg7 h7 (shapeCast S32x1 r0 (by decide))
    (rrc (shapeCast S32x1 r0 (by decide)) (shapeCast S32x1 c0 (by decide))) inv)
    216 le_rfl 216 le_rfl ⟨⟩

end K
-- ==== Proof.K.EqKernel.lean ====
module

public import proofs.«01_k».proof.Kernel
public import proofs.«01_k».proof.Proof.Gen.Kernel
public import proofs.«01_k».proof.Proof.K.Body

@[expose] public section

set_option maxRecDepth 100000
set_option maxHeartbeats 0

noncomputable section

namespace K.Bits

open Idealize.ShloMosaic Idealize.SL.Sem
open Cert.Kernel

variable {F : FTy → Type} [FloatOps F] [Cert.Kernel.Facts]

/-- The printed second body is `quantBody`, the loop over the tiles. -/
theorem quant_eq (i : grid1.Coords) (arg1) (h1 : arg1.IsWhole) (arg2) (h2 : arg2.IsWhole) (arg3) (h3 : arg3.IsWhole)
    (arg4) (h4 : arg4.IsWhole) (arg5) (h5 : arg5.IsWhole) (arg6) (h6 : arg6.IsWhole) (arg7) (h7 : arg7.IsWhole) :
    cc1_quantise (F := F) i arg1 h1 arg2 h2 arg3 h3 arg4 h4 arg5 h5 arg6 h6 arg7 h7
      = quantBody (nD := nD) (τ := τ) (Λ := Λ₀) arg1 arg2 arg3 arg4 arg5 arg6 arg7 h7 := by
  with_unfolding_all exact rfl

/-- Whether the block is the first. -/
abbrev isFirst (i : grid0.Coords) : BitVec 1 :=
  Scalar.cmpi .ne (Scalar.extui (Scalar.cmpi .eq (BitVec.ofNat 32 (i 0).val) 0#32 : BitVec 1)) 0#32

/-- The printed first body's first stretch is `cut1`, which ends inside tile 108 of the first loop. -/
theorem part214_eq (i : grid0.Coords) (arg1) (h1 : arg1.IsWhole) (arg2) (h2 : arg2.IsWhole) (arg3) (h3 : arg3.IsWhole)
    (arg4) (h4 : arg4.IsWhole) (arg5) (h5 : arg5.IsWhole) (arg6) (h6 : arg6.IsWhole) (arg7) (h7 : arg7.IsWhole)
    (arg8) (h8 : arg8.IsWhole) :
    k0_part214 (F := F) i arg1 h1 arg2 h2 arg3 h3 arg4 h4 arg5 h5 arg6 h6 arg7 h7 arg8 h8
      = cut1 (isFirst i) (BitVec.ofNat 32 (i 0).val) arg1 arg2 arg3 arg4 arg7 arg8 := by
  by_cases hc : isFirst i = 1#1
  · unfold k0_part214 k0_part1 cut1 zeroFill
    unfold isFirst at *
    simp only [dif_pos hc]
    with_unfolding_all exact rfl
  · unfold k0_part214 k0_part1 cut1 zeroFill
    unfold isFirst at *
    simp only [dif_neg hc]
    with_unfolding_all exact rfl

/-- Its second stretch is `cut2`, which ends inside tile 1 of the second loop. -/
theorem part215_eq (i : grid0.Coords) (arg1) (h1 : arg1.IsWhole) (arg2) (h2 : arg2.IsWhole) (arg3) (h3 : arg3.IsWhole)
    (arg4) (h4 : arg4.IsWhole) (arg5) (h5 : arg5.IsWhole) (arg6) (h6 : arg6.IsWhole) (arg7) (h7 : arg7.IsWhole)
    (arg8) (h8 : arg8.IsWhole) (r : FVec F K.S32x1 .f32) (s q : FVec F K.S32x128 .f32) (acc acc' : FVec F K.S8x128 .f32) :
    k0_part215 (F := F) i arg1 h1 arg2 h2 arg3 h3 arg4 h4 arg5 h5 arg6 h6 arg7 h7 arg8 h8 r s q acc acc'
      = cut2 arg1 arg2 arg3 arg6 arg7 arg8 r s q acc := by
  with_unfolding_all exact rfl

/-- Its third stretch is `cut3`, which ends inside tile 140 of the second loop. -/
theorem part216_eq (i : grid0.Coords) (arg1) (h1 : arg1.IsWhole) (arg2) (h2 : arg2.IsWhole) (arg3) (h3 : arg3.IsWhole)
    (arg4) (h4 : arg4.IsWhole) (arg5) (h5 : arg5.IsWhole) (arg6) (h6 : arg6.IsWhole) (arg7) (h7 : arg7.IsWhole)
    (arg8) (h8 : arg8.IsWhole) (r b : FVec F K.S32x1 .f32) (m : FVec F K.S8x128 .f32) (u : FVec F K.S32x128 .f32) (x : FVec F K.S32x128 .bf16) :
    k0_part216 (F := F) i arg1 h1 arg2 h2 arg3 h3 arg4 h4 arg5 h5 arg6 h6 arg7 h7 arg8 h8 r b m u x
      = cut3 arg1 arg2 arg3 r b m u x := by
  with_unfolding_all exact rfl

/-- The printed first body is `reduceBody`, the loops over the tiles. -/
theorem reduce_eq (i : grid0.Coords) (arg1) (h1 : arg1.IsWhole) (arg2) (h2 : arg2.IsWhole) (arg3) (h3 : arg3.IsWhole)
    (arg4) (h4 : arg4.IsWhole) (arg5) (h5 : arg5.IsWhole) (arg6) (h6 : arg6.IsWhole) (arg7) (h7 : arg7.IsWhole)
    (arg8) (h8 : arg8.IsWhole) :
    cc0_reduce (F := F) i arg1 h1 arg2 h2 arg3 h3 arg4 h4 arg5 h5 arg6 h6 arg7 h7 arg8 h8
      = reduceBody (nD := nD) (τ := τ) (Λ := Λ₀) (isFirst i) (k0_cond2 i) arg1 arg2 arg3 arg4 arg5 arg6 arg7 arg8 := by
  rw [← cutBody_eq _ _ (BitVec.ofNat 32 (i 0).val)]
  unfold cc0_reduce cutBody
  refine Eq.trans ?_ (congrArg (· >>= _) (part214_eq i arg1 h1 arg2 h2 arg3 h3 arg4 h4 arg5 h5 arg6 h6 arg7 h7 arg8 h8))
  refine bind_congr fun p => ?_
  refine Eq.trans ?_ (congrArg (· >>= _) (part215_eq i arg1 h1 arg2 h2 arg3 h3 arg4 h4 arg5 h5 arg6 h6 arg7 h7 arg8 h8 p.2.1 p.2.2.1 p.2.2.2.1 p.2.2.2.2.1 p.2.2.2.2.2))
  refine bind_congr fun q => ?_
  refine Eq.trans ?_ (congrArg (· >>= _) (part216_eq i arg1 h1 arg2 h2 arg3 h3 arg4 h4 arg5 h5 arg6 h6 arg7 h7 arg8 h8 p.2.1 q.1 q.2.1 q.2.2.1 q.2.2.2))
  refine bind_congr fun m => ?_
  with_unfolding_all exact rfl

end K.Bits
-- ==== Proof.K.Val.lean ====
module

public import proofs.«01_k».proof.Proof.K.Body

/-!
What the two bodies compute, as functions of their blocks' contents.
-/

@[expose] public section

noncomputable section

namespace K

open Idealize.ShloMosaic Idealize.SL.Sem

/-! ## Reading and writing a rectangle of contents -/

section Put

variable {α : Type} {s : Shape}

/-- The contents a rectangle of `X` holds. -/
def rd (r : Rect s) (X : s.Idx → α) : r.shape.Idx → α := fun x => X (r.emb x)

open Classical in
/-- `X` with a rectangle overwritten. -/
def put (r : Rect s) (X : s.Idx → α) (w : r.shape.Idx → α) : s.Idx → α := fun y =>
  if h : ∃ x, r.emb x = y then w h.choose else X y

/-- Inside the rectangle the overwritten contents are the new ones. -/
theorem put_emb (r : Rect s) (X : s.Idx → α) (w : r.shape.Idx → α) (x : r.shape.Idx) : put r X w (r.emb x) = w x := by
  have h : ∃ x', r.emb x' = r.emb x := ⟨x, rfl⟩
  unfold put
  rw [dif_pos h]
  exact congrArg w (r.emb.injective h.choose_spec)

/-- Outside the rectangle the overwritten contents are the old ones. -/
theorem put_of_not (r : Rect s) (X : s.Idx → α) (w : r.shape.Idx → α) (y : s.Idx) (h : ∀ x, r.emb x ≠ y) :
    put r X w y = X y := by
  unfold put
  rw [dif_neg (fun ⟨x, hx⟩ => h x hx)]

/-- A rectangle starting at zero with the shape's own extents is the whole of it. -/
theorem emb_all {sz : Fin s.rank → Nat} (o : Fin s.rank → Nat) (inb) (ho : ∀ a, o a = 0)
    (x : (Rect.unit (s := s) o sz inb).shape.Idx) (a : Fin s.rank) :
    ((Rect.unit (s := s) o sz inb).emb x a : Nat) = (x a : Nat) := by
  rw [Rect.emb_apply]
  show o a + 1 * (x a : Nat) = _
  rw [ho a]; omega

end Put

/-! ## Tiles -/

section Tile

variable {α : Type}

/-- The tile a lane lies in. -/
def tileOf {m : Nat} (y : (⟨2, ![m, 27648]⟩ : Shape).Idx) : Fin 216 := ⟨(y 1).val / 128, by
  have : (y 1).val < 27648 := (y 1).isLt
  omega⟩

/-- Where in its tile an element lies. -/
def inTile {m : Nat} (y : (⟨2, ![m, 27648]⟩ : Shape).Idx) : (⟨2, ![m, 128]⟩ : Shape).Idx := fun a =>
  match a with
  | 0 => ⟨(y 0).val, (y 0).isLt⟩
  | 1 => ⟨(y 1).val % 128, Nat.mod_lt _ (by decide)⟩

/-- Contents from their 216 tiles. -/
def glue {m : Nat} (f : Fin 216 → (⟨2, ![m, 128]⟩ : Shape).Idx → α) : (⟨2, ![m, 27648]⟩ : Shape).Idx → α :=
  fun y => f (tileOf y) (inTile y)

/-- Tile `j` of a buffer of `m` rows. -/
abbrev tileM (m : Nat) (j : Fin 216) : Rect (⟨2, ![m, 27648]⟩ : Shape) :=
  Rect.unit (s := ⟨2, ![m, 27648]⟩) ![0, 128 * j.val] (⟨2, ![m, 128]⟩ : Shape).size (tile_inb m j)

/-- An element of a tile has, in the whole, its own row. -/
theorem tileM_emb0 (m : Nat) (j : Fin 216) (x : (tileM m j).shape.Idx) : ((tileM m j).emb x 0 : Nat) = (x 0 : Nat) := by
  rw [Rect.emb_apply]
  show 0 + 1 * (x 0 : Nat) = _
  omega

/-- An element of tile `j` has, in the whole, its own lane plus `128 * j`. -/
theorem tileM_emb1 (m : Nat) (j : Fin 216) (x : (tileM m j).shape.Idx) :
    ((tileM m j).emb x 1 : Nat) = 128 * j.val + (x 1 : Nat) := by
  rw [Rect.emb_apply]
  show 128 * j.val + 1 * (x 1 : Nat) = _
  omega

/-- An element of tile `j` lies in tile `j`. -/
theorem tileOf_emb (m : Nat) (j : Fin 216) (x : (tileM m j).shape.Idx) : tileOf ((tileM m j).emb x) = j := by
  apply Fin.ext
  show ((tileM m j).emb x 1 : Nat) / 128 = j.val
  rw [tileM_emb1]
  have : (x 1 : Nat) < 128 := (x 1).isLt
  omega

/-- Where an element of a tile lies in its tile is that element. -/
theorem inTile_emb (m : Nat) (j : Fin 216) (x : (tileM m j).shape.Idx) : inTile ((tileM m j).emb x) = x := by
  funext a
  apply Fin.ext
  match a with
  | 0 => exact tileM_emb0 m j x
  | 1 =>
    show ((tileM m j).emb x 1 : Nat) % 128 = _
    rw [tileM_emb1]
    have : (x 1 : Nat) < 128 := (x 1).isLt
    show (128 * j.val + (x 1 : Nat)) % 128 = (x 1 : Nat)
    omega

/-- Every element is the one at its place in its tile. -/
theorem emb_inTile (m : Nat) (y : (⟨2, ![m, 27648]⟩ : Shape).Idx) : (tileM m (tileOf y)).emb (inTile y) = y := by
  funext a
  apply Fin.ext
  match a with
  | 0 => exact tileM_emb0 m _ _
  | 1 =>
    refine (tileM_emb1 m _ _).trans ?_
    show 128 * ((y 1).val / 128) + (y 1).val % 128 = (y 1).val
    omega

/-- Tile `j` of contents put together from tiles is the `j`-th of them. -/
theorem rd_glue (m : Nat) (j : Fin 216) (f : Fin 216 → (⟨2, ![m, 128]⟩ : Shape).Idx → α) : rd (tileM m j) (glue f) = f j := by
  funext x
  show f (tileOf ((tileM m j).emb x)) (inTile ((tileM m j).emb x)) = _
  rw [tileOf_emb, inTile_emb]

/-- Contents put together from their own tiles are themselves. -/
theorem glue_rd (m : Nat) (X : (⟨2, ![m, 27648]⟩ : Shape).Idx → α) : glue (fun j => rd (tileM m j) X) = X := by
  funext y
  show X ((tileM m (tileOf y)).emb (inTile y)) = _
  rw [emb_inTile]

/-- Overwriting a tile of glued tiles replaces that tile. -/
theorem put_glue (m : Nat) (j : Fin 216) (f : Fin 216 → (⟨2, ![m, 128]⟩ : Shape).Idx → α) (w : (⟨2, ![m, 128]⟩ : Shape).Idx → α) :
    put (tileM m j) (glue f) w = glue (Function.update f j w) := by
  funext y
  by_cases h : tileOf y = j
  · subst h
    conv_lhs => rw [← emb_inTile m y]
    rw [tileOf_emb]
    refine (put_emb _ _ _ _).trans ?_
    show _ = Function.update f (tileOf y) w (tileOf y) (inTile y)
    rw [Function.update_self]
  · rw [put_of_not _ _ _ _ (fun x hx => h (by rw [← hx, tileOf_emb]))]
    show f (tileOf y) (inTile y) = Function.update f j w (tileOf y) (inTile y)
    rw [Function.update_of_ne h]

end Tile

/-- What the first `n` of 216 steps make of a value. -/
def foldV {α : Type} (step : Fin 216 → α → α) (a : α) : Nat → α
  | 0 => a
  | n + 1 => if h : n < 216 then step ⟨n, h⟩ (foldV step a n) else foldV step a n

variable {F : FTy → Type} [FloatOps F]

/-! ## The first body -/

/-- dgamma's partial rows after a block. -/
def accOut (r : FVec F S32x1 .f32) (X DY : FVec F S32x27648 .bf16) (acc : FVec F S8x27648 .f32) : FVec F S8x27648 .f32 :=
  glue (m := 8) fun j => accT (prodT r (rd (tile32 j) DY) (rd (tile32 j) X)) (rd (tile8 j) acc)

/-- The mean's lane-wise sums over a block. -/
def sumOut (r : FVec F S32x1 .f32) (X DY : FVec F S32x27648 .bf16) (G : FVec F S1x27648 .f32) : FVec F S32x128 .f32 :=
  foldV (fun j s => sumT (prodT r (rd (tile32 j) DY) (rd (tile32 j) X)) (rd (tile1 j) G) s)
    (broadcast S32x128 (Scalar.ofBits .f32 0x00000000#32)) 216

/-- The partial maxima after a block, `b` being `rstd * (rstd * c)`. -/
def maxOut (r b : FVec F S32x1 .f32) (X DY : FVec F S32x27648 .bf16) (G : FVec F S1x27648 .f32) (m : FVec F S8x128 .f32) :
    FVec F S8x128 .f32 :=
  foldV (fun j m => maxT r b (rd (tile32 j) DY) (rd (tile32 j) X) (rd (tile1 j) G) m) m 216

/-- The partial rows a block starts from. -/
def acc0 (first : BitVec 1) (acc : FVec F S8x27648 .f32) : FVec F S8x27648 .f32 :=
  if first = 1#1 then broadcast S8x27648 (Scalar.ofBits .f32 0x00000000#32) else acc

/-- The partial maxima a block starts from. -/
def max0 (first : BitVec 1) (m : FVec F S8x128 .f32) : FVec F S8x128 .f32 :=
  if first = 1#1 then broadcast S8x128 (Scalar.ofBits .f32 0x00000000#32) else m

/-- What dgamma's buffer holds after a block. -/
def dgOut (last : BitVec 1) (acc : FVec F S8x27648 .f32) (d : FVec F S1x27648 .f32) : FVec F S1x27648 .f32 :=
  if last = 1#1 then dgammaOf acc else d

/-! ## The second body -/

/-- A block's codes. -/
def codesOut (r c : FVec F S32x1 .f32) (inv : F .f32) (X DY : FVec F S32x27648 .bf16) (G : FVec F S1x27648 .f32) :
    FVec F S32x27648 .fp8e5m2 :=
  glue (m := 32) fun j => codeT r (rrc r c) inv (rd (tile32 j) DY) (rd (tile32 j) X) (rd (tile1 j) G)

end K
-- ==== Proof.K.Wp.lean ====
module

public import proofs.«01_k».proof.Proof.K.Val
public import Idealize.ShloMosaic.Lib.Memref
public import Idealize.ShloMosaic.Lib.Tactic
public import Idealize.ShloMosaic.Lib.Pointwise.Reshape

/-!
The two bodies, run: from each block's contents to the contents they leave.
-/

@[expose] public section

noncomputable section

namespace K

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Λ : Labels}
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ} (𝒱 : Variants) (c : Dev nD) (bd : Option 𝒱.V) (E : Set Name)

/-- A load of a rectangle gives that rectangle of the memref's contents. -/
theorem load_own {cs : CoreSpace} {s : Shape} {e : EltTy} (m : Memref sig .tc cs s e) (r : Rect s) (hl : m.view.LoadsAt r.toLoadRect)
    (X : s.Idx → Elt F e) (K : (r.shape.Idx → Elt F e) → sProp 𝕄) :
    iprop(owns (c : Thread nD τ) m fullShare X ∗ (owns (c : Thread nD τ) m fullShare X -∗ K (rd r X)))
      ⊢ wp frame (wpE defs 𝒱 (c : Thread nD τ) bd) E (Prog.lift (.load m r.toLoadRect hl)) K := by
  unfold owns
  iintro ⟨⟨%f, %hf, H⟩, Hk⟩
  have h := wp_load_rect (defs := defs) (Γ := ∅) (Q := K) (hl := hl) (k := Prog.ret) (q := fullShare) (f := f) 𝒱 (c : Thread nD τ) bd E (m.view.set_slice_subset r)
  ihave Hw := h $$ H
  iapply Hw
  iintro H
  rw [wp_ret]
  imodintro
  subst hf
  rw [show rd r (m.view.read (Elt F) f) = (m.access r).read (Elt F) f from rfl]
  iapply Hk
  iexists f
  isplitr; · ipureintro; rfl
  iexact H

/-- What a memref reads after a store of a rectangle. -/
theorem read_put {cs : CoreSpace} {s : Shape} {e : EltTy} (m : Memref sig .tc cs s e) (r : Rect s) (f : m.view.ty.Contents (Elt F))
    (w : r.shape.Idx → Elt F e) :
    m.view.read (Elt F) ((m.access r).write (Elt F) f w Finset.univ) = put r (m.view.read (Elt F) f) w := by
  funext y
  by_cases h : ∃ x, r.emb x = y
  · obtain ⟨x, rfl⟩ := h
    rw [put_emb]
    exact View.read_slice_write_emb r f w (Finset.mem_univ x)
  · rw [put_of_not _ _ _ _ (fun x hx => h ⟨x, hx⟩)]
    refine View.read_slice_write_of_not_mem r f w _ fun hm => h ?_
    obtain ⟨x, -, hx⟩ := Finset.mem_map.mp hm
    exact ⟨x, hx⟩

/-- A store of a rectangle overwrites it. -/
theorem store_own {cs : CoreSpace} {s : Shape} {e : EltTy} (m : Memref sig .tc cs s e) (r : Rect s) (w : r.shape.Idx → Elt F e)
    (hx : (m.access r).Stores Finset.univ) (hm : Finset.univ = Finset.univ ∨ ∀ a, r.stride a = 1)
    (X : s.Idx → Elt F e) (K : PUnit → sProp 𝕄) :
    iprop(owns (c : Thread nD τ) m fullShare X ∗ (owns (c : Thread nD τ) m fullShare (put r X w) -∗ K ⟨⟩))
      ⊢ wp frame (wpE defs 𝒱 (c : Thread nD τ) bd) E (Prog.lift (.store m r w Finset.univ hx hm)) K := by
  unfold owns
  iintro ⟨⟨%f, %hf, H⟩, Hk⟩
  have h := wp_store (defs := defs) (Γ := ∅) (Q := K) (hx := hx) (hm := hm) (k := Prog.ret) (f := f) (w := w) 𝒱 (c : Thread nD τ) bd E (m.setOn_access_subset r Finset.univ)
  ihave Hw := h $$ H
  iapply Hw
  iintro H
  rw [wp_ret]
  imodintro
  subst hf
  iapply Hk
  iexists _
  isplitr; swap; · iexact H
  ipureintro
  exact read_put m r f w

/-- A chain of 216 steps, each taking the state `R j` to `R (j + 1)` and computing its value by `stepV`. -/
theorem chain_wp {α : Type} (step : Fin 216 → α → Prog (TpuEff nD τ sig (Elt F) Λ .tc) α) (stepV : Fin 216 → α → α)
    (R : Nat → sProp 𝕄)
    (hstep : ∀ (j : Fin 216) (a : α) (K : α → sProp 𝕄), iprop(R j.val ∗ (R (j.val + 1) -∗ K (stepV j a)))
      ⊢ wp frame (wpE defs 𝒱 (c : Thread nD τ) bd) E (step j a) K) (a : α) (K : α → sProp 𝕄) :
    ∀ (n : Nat) (h : n ≤ 216), iprop(R (216 - n) ∗ (R 216 -∗ K (foldV stepV a 216)))
      ⊢ wp frame (wpE defs 𝒱 (c : Thread nD τ) bd) E (chain step 216 le_rfl n h (foldV stepV a (216 - n))) K := by
  intro n
  induction n with
  | zero =>
    intro h
    show _ ⊢ wp frame (wpE defs 𝒱 (c : Thread nD τ) bd) E (.ret (foldV stepV a 216)) K
    rw [wp_ret]
    iintro ⟨HR, Hk⟩
    imodintro
    iapply Hk
    iexact HR
  | succ n ih =>
    intro h
    rw [chain_succ step 216 le_rfl n h ⟨216 - (n + 1), by omega⟩ rfl, wp_bind]
    refine BIBase.Entails.trans ?_ (hstep ⟨216 - (n + 1), by omega⟩ _ _)
    have hf : stepV ⟨216 - (n + 1), by omega⟩ (foldV stepV a (216 - (n + 1))) = foldV stepV a (216 - n) := by
      have e : 216 - n = (216 - (n + 1)) + 1 := by omega
      rw [e]
      show _ = if h : 216 - (n + 1) < 216 then _ else _
      rw [dif_pos (by omega)]
    have he : R ((⟨216 - (n + 1), by omega⟩ : Fin 216).val + 1) = R (216 - n) := congrArg R (by show 216 - (n + 1) + 1 = _; omega)
    rw [hf, he]
    iintro ⟨HR, Hk⟩
    isplitl [HR]; · iexact HR
    iintro HR
    iapply (ih (Nat.le_of_succ_le h))
    isplitl [HR]; · iexact HR
    iexact Hk

/-- A chain of all 216 steps. -/
theorem chain_wp_all {α : Type} (step : Fin 216 → α → Prog (TpuEff nD τ sig (Elt F) Λ .tc) α) (stepV : Fin 216 → α → α)
    (R : Nat → sProp 𝕄)
    (hstep : ∀ (j : Fin 216) (a : α) (K : α → sProp 𝕄), iprop(R j.val ∗ (R (j.val + 1) -∗ K (stepV j a)))
      ⊢ wp frame (wpE defs 𝒱 (c : Thread nD τ) bd) E (step j a) K) (a : α) (K : α → sProp 𝕄) :
    iprop(R 0 ∗ (R 216 -∗ K (foldV stepV a 216)))
      ⊢ wp frame (wpE defs 𝒱 (c : Thread nD τ) bd) E (chain step 216 le_rfl 216 le_rfl a) K :=
  chain_wp 𝒱 c bd E step stepV R hstep a K 216 le_rfl

/-- The tiles below `n` new, the others old. -/
def mix {m : Nat} {α : Type} (new old : Fin 216 → (⟨2, ![m, 128]⟩ : Shape).Idx → α) (n : Nat) :
    (⟨2, ![m, 27648]⟩ : Shape).Idx → α :=
  glue fun j => if j.val < n then new j else old j

/-- Writing the new tile `j`, when the tiles below `j` are new, makes the tiles below `j + 1` new. -/
theorem put_mix {m : Nat} {α : Type} (new old : Fin 216 → (⟨2, ![m, 128]⟩ : Shape).Idx → α) (j : Fin 216) :
    put (tileM m j) (mix new old j.val) (new j) = mix new old (j.val + 1) := by
  unfold mix
  rw [put_glue]
  congr 1
  funext k
  by_cases h : k = j
  · subst h
    rw [Function.update_self, if_pos (Nat.lt_succ_self _)]
  · have : k.val ≠ j.val := fun e => h (Fin.ext e)
    rw [Function.update_of_ne h]
    by_cases h' : k.val < j.val
    · rw [if_pos h', if_pos (by omega)]
    · rw [if_neg h', if_neg (by omega)]

/-- When only the tiles below `j` are new, tile `j` is still the old one. -/
theorem rd_mix {m : Nat} {α : Type} (new old : Fin 216 → (⟨2, ![m, 128]⟩ : Shape).Idx → α) (j : Fin 216) :
    rd (tileM m j) (mix new old j.val) = old j := by
  unfold mix
  rw [rd_glue, if_neg (Nat.lt_irrefl _)]

/-- With no tile new, all tiles are old. -/
theorem mix_zero {m : Nat} {α : Type} (new old : Fin 216 → (⟨2, ![m, 128]⟩ : Shape).Idx → α) : mix new old 0 = glue old := by
  unfold mix
  congr 1

/-- With all 216 tiles new, the contents are the new ones. -/
theorem mix_all {m : Nat} {α : Type} (new old : Fin 216 → (⟨2, ![m, 128]⟩ : Shape).Idx → α) : mix new old 216 = glue new := by
  unfold mix
  congr 1
  funext j
  rw [if_pos j.isLt]

/-- The first loop. -/
theorem sum_wp (arg1 arg2 : Memref sig .tc .vmem S32x27648 .bf16) (arg3 : Memref sig .tc .vmem S1x27648 .f32)
    (arg8 : Memref sig .tc .vmem S8x27648 .f32) (r : FVec F S32x1 .f32) (X DY : FVec F S32x27648 .bf16) (G : FVec F S1x27648 .f32)
    (acc : FVec F S8x27648 .f32) (K : FVec F S32x128 .f32 → sProp 𝕄) :
    iprop(owns (c : Thread nD τ) arg1 fullShare X ∗ owns (c : Thread nD τ) arg2 fullShare DY
        ∗ owns (c : Thread nD τ) arg3 fullShare G ∗ owns (c : Thread nD τ) arg8 fullShare acc
        ∗ (iprop(owns (c : Thread nD τ) arg1 fullShare X ∗ owns (c : Thread nD τ) arg2 fullShare DY
          ∗ owns (c : Thread nD τ) arg3 fullShare G ∗ owns (c : Thread nD τ) arg8 fullShare (accOut r X DY acc)) -∗ K (sumOut r X DY G)))
      ⊢ wp frame (wpE defs 𝒱 (c : Thread nD τ) bd) E
          (chain (sumStep arg1 arg2 arg3 arg8 r) 216 le_rfl 216 le_rfl (broadcast S32x128 (Scalar.ofBits .f32 0x00000000#32))) K := by
  let new : Fin 216 → FVec F S8x128 .f32 := fun j => accT (prodT r (rd (tile32 j) DY) (rd (tile32 j) X)) (rd (tile8 j) acc)
  let old : Fin 216 → FVec F S8x128 .f32 := fun j => rd (tile8 j) acc
  have h := chain_wp_all (defs := defs) (F := F) 𝒱 c bd E (sumStep arg1 arg2 arg3 arg8 r)
    (fun j s => sumT (prodT r (rd (tile32 j) DY) (rd (tile32 j) X)) (rd (tile1 j) G) s)
    (fun n => iprop(owns (c : Thread nD τ) arg1 fullShare X ∗ owns (c : Thread nD τ) arg2 fullShare DY
        ∗ owns (c : Thread nD τ) arg3 fullShare G ∗ owns (c : Thread nD τ) arg8 fullShare (mix (m := 8) new old n)))
    ?_ (broadcast S32x128 (Scalar.ofBits .f32 0x00000000#32)) K
  · rw [mix_zero, mix_all, show glue (m := 8) old = acc from glue_rd 8 acc] at h
    refine BIBase.Entails.trans ?_ h
    iintro ⟨H1, H2, H3, H8, Hk⟩
    isplitl [H1 H2 H3 H8]
    · isplitl [H1]; · iexact H1
      isplitl [H2]; · iexact H2
      isplitl [H3] <;> iassumption
    · iexact Hk
  · intro j s K
    unfold sumStep sumStepA sumStepB
    simp only [wp_bind, wp_pure]
    iintro ⟨⟨H1, H2, H3, H8⟩, Hk⟩
    iapply (load_own (defs := defs) 𝒱 c bd E arg2 (tile32 j) _ DY _)
    isplitl [H2]; · iexact H2
    iintro H2
    iapply (load_own (defs := defs) 𝒱 c bd E arg1 (tile32 j) _ X _)
    isplitl [H1]; · iexact H1
    iintro H1
    iapply (load_own (defs := defs) 𝒱 c bd E arg8 (tile8 j) _ _ _)
    isplitl [H8]; · iexact H8
    iintro H8
    iapply (load_own (defs := defs) 𝒱 c bd E arg8 (tile8 j) _ _ _)
    isplitl [H8]; · iexact H8
    iintro H8
    imodintro
    iapply (store_own (defs := defs) 𝒱 c bd E arg8 (tile8 j) _ _ _ _ _)
    isplitl [H8]; · iexact H8
    iintro H8
    iapply (load_own (defs := defs) 𝒱 c bd E arg3 (tile1 j) _ G _)
    isplitl [H3]; · iexact H3
    iintro H3
    imodintro
    iapply Hk
    have e : put (tile8 j) (mix (m := 8) new old j.val)
        (shapeCast S8x128 (accT (prodT r (rd (tile32 j) DY) (rd (tile32 j) X)) (rd (tile8 j) (mix (m := 8) new old j.val))) (by decide))
          = mix (m := 8) new old (j.val + 1) := by
      rw [shapeCast_id, rd_mix]
      exact put_mix new old j
    rw [e]
    isplitl [H1]; · iexact H1
    isplitl [H2]; · iexact H2
    isplitl [H3] <;> iassumption

/-- The second loop. -/
theorem max_wp (arg1 arg2 : Memref sig .tc .vmem S32x27648 .bf16) (arg3 : Memref sig .tc .vmem S1x27648 .f32)
    (r b : FVec F S32x1 .f32) (X DY : FVec F S32x27648 .bf16) (G : FVec F S1x27648 .f32) (m : FVec F S8x128 .f32)
    (K : FVec F S8x128 .f32 → sProp 𝕄) :
    iprop(owns (c : Thread nD τ) arg1 fullShare X ∗ owns (c : Thread nD τ) arg2 fullShare DY
        ∗ owns (c : Thread nD τ) arg3 fullShare G
        ∗ (iprop(owns (c : Thread nD τ) arg1 fullShare X ∗ owns (c : Thread nD τ) arg2 fullShare DY
          ∗ owns (c : Thread nD τ) arg3 fullShare G) -∗ K (maxOut r b X DY G m)))
      ⊢ wp frame (wpE defs 𝒱 (c : Thread nD τ) bd) E (chain (maxStep arg1 arg2 arg3 r b) 216 le_rfl 216 le_rfl m) K := by
  have h := chain_wp_all (defs := defs) (F := F) 𝒱 c bd E (maxStep arg1 arg2 arg3 r b)
    (fun j m => maxT r b (rd (tile32 j) DY) (rd (tile32 j) X) (rd (tile1 j) G) m)
    (fun _ => iprop(owns (c : Thread nD τ) arg1 fullShare X ∗ owns (c : Thread nD τ) arg2 fullShare DY
        ∗ owns (c : Thread nD τ) arg3 fullShare G)) ?_ m K
  · refine BIBase.Entails.trans ?_ h
    iintro ⟨H1, H2, H3, Hk⟩
    isplitl [H1 H2 H3]
    · isplitl [H1]; · iexact H1
      isplitl [H2] <;> iassumption
    · iexact Hk
  · intro j s K
    unfold maxStep
    simp only [wp_bind, wp_pure]
    iintro ⟨⟨H1, H2, H3⟩, Hk⟩
    iapply (load_own (defs := defs) 𝒱 c bd E arg2 (tile32 j) _ DY _)
    isplitl [H2]; · iexact H2
    iintro H2
    iapply (load_own (defs := defs) 𝒱 c bd E arg3 (tile1 j) _ G _)
    isplitl [H3]; · iexact H3
    iintro H3
    iapply (load_own (defs := defs) 𝒱 c bd E arg1 (tile32 j) _ X _)
    isplitl [H1]; · iexact H1
    iintro H1
    imodintro
    iapply Hk
    isplitl [H1]; · iexact H1
    isplitl [H2] <;> iassumption

/-- The quantiser's loop. -/
theorem code_wp (arg1 arg2 : Memref sig .tc .vmem S32x27648 .bf16) (arg3 : Memref sig .tc .vmem S1x27648 .f32)
    (arg7 : Memref sig .tc .vmem S32x27648 .fp8e5m2) (h7 : arg7.IsWhole)
    (r k : FVec F S32x1 .f32) (inv : F .f32) (X DY : FVec F S32x27648 .bf16) (G : FVec F S1x27648 .f32) (C : FVec F S32x27648 .fp8e5m2)
    (K : PUnit → sProp 𝕄) :
    iprop(owns (c : Thread nD τ) arg1 fullShare X ∗ owns (c : Thread nD τ) arg2 fullShare DY
        ∗ owns (c : Thread nD τ) arg3 fullShare G ∗ owns (c : Thread nD τ) arg7 fullShare C
        ∗ (iprop(owns (c : Thread nD τ) arg1 fullShare X ∗ owns (c : Thread nD τ) arg2 fullShare DY
          ∗ owns (c : Thread nD τ) arg3 fullShare G ∗ owns (c : Thread nD τ) arg7 fullShare (codesOut r k inv X DY G)) -∗ K ⟨⟩))
      ⊢ wp frame (wpE defs 𝒱 (c : Thread nD τ) bd) E
          (chain (codeStep arg1 arg2 arg3 arg7 h7 r (rrc r k) inv) 216 le_rfl 216 le_rfl ⟨⟩) K := by
  let new : Fin 216 → FVec F S32x128 .fp8e5m2 := fun j =>
    codeT r (rrc r k) inv (rd (tile32 j) DY) (rd (tile32 j) X) (rd (tile1 j) G)
  let old : Fin 216 → FVec F S32x128 .fp8e5m2 := fun j => rd (tile32 j) C
  have h := chain_wp_all (defs := defs) (F := F) 𝒱 c bd E (codeStep arg1 arg2 arg3 arg7 h7 r (rrc r k) inv) (fun _ _ => ⟨⟩)
    (fun n => iprop(owns (c : Thread nD τ) arg1 fullShare X ∗ owns (c : Thread nD τ) arg2 fullShare DY
        ∗ owns (c : Thread nD τ) arg3 fullShare G ∗ owns (c : Thread nD τ) arg7 fullShare (mix (m := 32) new old n)))
    ?_ ⟨⟩ K
  · rw [mix_zero, mix_all, show glue (m := 32) old = C from glue_rd 32 C] at h
    refine BIBase.Entails.trans ?_ h
    iintro ⟨H1, H2, H3, H7, Hk⟩
    isplitl [H1 H2 H3 H7]
    · isplitl [H1]; · iexact H1
      isplitl [H2]; · iexact H2
      isplitl [H3] <;> iassumption
    · iexact Hk
  · intro j s K
    unfold codeStep
    simp only [wp_bind]
    iintro ⟨⟨H1, H2, H3, H7⟩, Hk⟩
    iapply (load_own (defs := defs) 𝒱 c bd E arg2 (tile32 j) _ DY _)
    isplitl [H2]; · iexact H2
    iintro H2
    iapply (load_own (defs := defs) 𝒱 c bd E arg3 (tile1 j) _ G _)
    isplitl [H3]; · iexact H3
    iintro H3
    iapply (load_own (defs := defs) 𝒱 c bd E arg1 (tile32 j) _ X _)
    isplitl [H1]; · iexact H1
    iintro H1
    iapply (load_own (defs := defs) 𝒱 c bd E arg7 (tile32 j) _ _ _)
    isplitl [H7]; · iexact H7
    iintro H7
    iapply (store_own (defs := defs) 𝒱 c bd E arg7 (tile32 j) _ _ _ _ _)
    isplitl [H7]; · iexact H7
    iintro H7
    iapply Hk
    have e : put (tile32 j) (mix (m := 32) new old j.val)
        (codeT r (rrc r k) inv (rd (tile32 j) DY) (rd (tile32 j) X) (rd (tile1 j) G)) = mix (m := 32) new old (j.val + 1) :=
      put_mix new old j
    rw [e]
    isplitl [H1]; · iexact H1
    isplitl [H2]; · iexact H2
    isplitl [H3] <;> iassumption

/-- The whole of a buffer, read. -/
theorem rd_all {α : Type} {s : Shape} (o : Fin s.rank → Nat) (inb) (ho : ∀ a, o a = 0) (X : s.Idx → α) :
    rd (Rect.unit (s := s) o s.size inb) X = X := by
  funext x
  exact congrArg X (funext fun a => Fin.ext (emb_all o inb ho x a))

/-- The whole of a buffer, overwritten. -/
theorem put_all {α : Type} {s : Shape} (o : Fin s.rank → Nat) (inb) (ho : ∀ a, o a = 0) (X w : s.Idx → α) :
    put (Rect.unit (s := s) o s.size inb) X w = w := by
  funext x
  have h : (Rect.unit (s := s) o s.size inb).emb x = x := funext fun a => Fin.ext (emb_all o inb ho x a)
  conv_lhs => rw [← h]
  exact put_emb (Rect.unit (s := s) o s.size inb) X w x

/-- Both offsets of a rectangle at the origin are zero. -/
theorem zz : ∀ a : Fin 2, (![0, 0] : Fin 2 → Nat) a = 0 := by decide

/-- Reading the whole of a 32x1 buffer gives its contents. -/
theorem rd_32x1 {α : Type} (X : S32x1.Idx → α) : rd all32x1 X = X := rd_all (s := S32x1) _ _ zz X
/-- Reading the whole of a 1x1 buffer gives its contents. -/
theorem rd_1x1 {α : Type} (X : S1x1.Idx → α) : rd all1x1 X = X := rd_all (s := S1x1) _ _ zz X
/-- Reading the whole of a 8x128 buffer gives its contents. -/
theorem rd_8x128 {α : Type} (X : S8x128.Idx → α) : rd all8x128 X = X := rd_all (s := S8x128) _ _ zz X
/-- Reading the whole of a 8x27648 buffer gives its contents. -/
theorem rd_8x27648 {α : Type} (X : S8x27648.Idx → α) : rd all8x27648 X = X := rd_all (s := S8x27648) _ _ zz X
/-- Overwriting the whole of a 32x1 buffer gives the new contents. -/
theorem put_32x1 {α : Type} (X w : S32x1.Idx → α) : put all32x1 X w = w := put_all (s := S32x1) _ _ zz X w
/-- Overwriting the whole of a 8x128 buffer gives the new contents. -/
theorem put_8x128 {α : Type} (X w : S8x128.Idx → α) : put all8x128 X w = w := put_all (s := S8x128) _ _ zz X w
/-- Overwriting the whole of a 8x27648 buffer gives the new contents. -/
theorem put_8x27648 {α : Type} (X w : S8x27648.Idx → α) : put all8x27648 X w = w := put_all (s := S8x27648) _ _ zz X w
/-- Overwriting the whole of a 1x27648 buffer gives the new contents. -/
theorem put_1x27648 {α : Type} (X w : S1x27648.Idx → α) : put all1x27648 X w = w := put_all (s := S1x27648) _ _ zz X w

/-- The first block's zeros. -/
theorem zero_wp (first : BitVec 1) (arg7 : Memref sig .tc .vmem S8x128 .f32) (arg8 : Memref sig .tc .vmem S8x27648 .f32)
    (m : FVec F S8x128 .f32) (acc : FVec F S8x27648 .f32) (K : PUnit → sProp 𝕄) :
    iprop(owns (c : Thread nD τ) arg7 fullShare m ∗ owns (c : Thread nD τ) arg8 fullShare acc
        ∗ (iprop(owns (c : Thread nD τ) arg7 fullShare (max0 first m) ∗ owns (c : Thread nD τ) arg8 fullShare (acc0 first acc)) -∗ K ⟨⟩))
      ⊢ wp frame (wpE defs 𝒱 (c : Thread nD τ) bd) E (zeroFill first arg7 arg8) K := by
  unfold zeroFill max0 acc0
  by_cases h : first = 1#1
  · simp only [dif_pos h, if_pos h, wp_bind, wp_pure]
    iintro ⟨H7, H8, Hk⟩
    iapply (load_own (defs := defs) 𝒱 c bd E arg8 all8x27648 _ _ _)
    isplitl [H8]; · iexact H8
    iintro H8
    iapply (store_own (defs := defs) 𝒱 c bd E arg8 all8x27648 _ _ _ _ _)
    isplitl [H8]; · iexact H8
    rw [put_8x27648, shapeCast_id]
    iintro H8
    iapply (load_own (defs := defs) 𝒱 c bd E arg7 all8x128 _ _ _)
    isplitl [H7]; · iexact H7
    iintro H7
    iapply (store_own (defs := defs) 𝒱 c bd E arg7 all8x128 _ _ _ _ _)
    isplitl [H7]; · iexact H7
    rw [put_8x128]
    iintro H7
    imodintro
    iapply Hk
    isplitl [H7] <;> iassumption
  · simp only [dif_neg h, if_neg h, wp_pure]
    iintro ⟨H7, H8, Hk⟩
    imodintro
    iapply Hk
    isplitl [H7] <;> iassumption

/-- The last block's dgamma. -/
theorem finish_wp (last : BitVec 1) (arg5 : Memref sig .tc .vmem S1x27648 .f32) (arg8 : Memref sig .tc .vmem S8x27648 .f32)
    (d : FVec F S1x27648 .f32) (acc : FVec F S8x27648 .f32) (K : PUnit → sProp 𝕄) :
    iprop(owns (c : Thread nD τ) arg5 fullShare d ∗ owns (c : Thread nD τ) arg8 fullShare acc
        ∗ (iprop(owns (c : Thread nD τ) arg5 fullShare (dgOut last acc d) ∗ owns (c : Thread nD τ) arg8 fullShare acc) -∗ K ⟨⟩))
      ⊢ wp frame (wpE defs 𝒱 (c : Thread nD τ) bd) E (finish last arg5 arg8) K := by
  unfold finish dgOut
  by_cases h : last = 1#1
  · simp only [dif_pos h, if_pos h, wp_bind, wp_pure]
    iintro ⟨H5, H8, Hk⟩
    iapply (load_own (defs := defs) 𝒱 c bd E arg8 all8x27648 _ _ _)
    isplitl [H8]; · iexact H8
    rw [rd_8x27648]
    iintro H8
    iapply (load_own (defs := defs) 𝒱 c bd E arg5 all1x27648 _ _ _)
    isplitl [H5]; · iexact H5
    iintro H5
    iapply (store_own (defs := defs) 𝒱 c bd E arg5 all1x27648 _ _ _ _ _)
    isplitl [H5]; · iexact H5
    rw [put_1x27648]
    iintro H5
    imodintro
    iapply Hk
    isplitl [H5] <;> iassumption
  · simp only [dif_neg h, if_neg h, wp_bind, wp_pure]
    iintro ⟨H5, H8, Hk⟩
    imodintro
    iapply Hk
    isplitl [H5] <;> iassumption

/-- The mean a block leaves. -/
def cOut (R : FVec F S32x1 .f32) (X DY : FVec F S32x27648 .bf16) (G : FVec F S1x27648 .f32) : FVec F S32x1 .f32 :=
  meanOf (sumOut R X DY G)

/-- The partial maxima a block leaves. -/
def amOut (R : FVec F S32x1 .f32) (X DY : FVec F S32x27648 .bf16) (G : FVec F S1x27648 .f32) (m : FVec F S8x128 .f32) :
    FVec F S8x128 .f32 :=
  maxOut R (rrc R (cOut R X DY G)) X DY G m

/-- The first body, run. -/
theorem reduce_wp (first last : BitVec 1) (arg1 arg2 : Memref sig .tc .vmem S32x27648 .bf16)
    (arg3 : Memref sig .tc .vmem S1x27648 .f32) (arg4 : Memref sig .tc .vmem S32x1 .f32)
    (arg5 : Memref sig .tc .vmem S1x27648 .f32) (arg6 : Memref sig .tc .vmem S32x1 .f32)
    (arg7 : Memref sig .tc .vmem S8x128 .f32) (arg8 : Memref sig .tc .vmem S8x27648 .f32)
    (X DY : FVec F S32x27648 .bf16) (G : FVec F S1x27648 .f32) (R : FVec F S32x1 .f32) (d : FVec F S1x27648 .f32)
    (c0 : FVec F S32x1 .f32) (m : FVec F S8x128 .f32) (acc : FVec F S8x27648 .f32) (K : PUnit → sProp 𝕄) :
    iprop(owns (c : Thread nD τ) arg1 fullShare X ∗ owns (c : Thread nD τ) arg2 fullShare DY
        ∗ owns (c : Thread nD τ) arg3 fullShare G ∗ owns (c : Thread nD τ) arg4 fullShare R
        ∗ owns (c : Thread nD τ) arg5 fullShare d ∗ owns (c : Thread nD τ) arg6 fullShare c0
        ∗ owns (c : Thread nD τ) arg7 fullShare m ∗ owns (c : Thread nD τ) arg8 fullShare acc
        ∗ (iprop(owns (c : Thread nD τ) arg1 fullShare X ∗ owns (c : Thread nD τ) arg2 fullShare DY
          ∗ owns (c : Thread nD τ) arg3 fullShare G ∗ owns (c : Thread nD τ) arg4 fullShare R
          ∗ owns (c : Thread nD τ) arg5 fullShare (dgOut last (accOut R X DY (acc0 first acc)) d)
          ∗ owns (c : Thread nD τ) arg6 fullShare (cOut R X DY G)
          ∗ owns (c : Thread nD τ) arg7 fullShare (amOut R X DY G (max0 first m))
          ∗ owns (c : Thread nD τ) arg8 fullShare (accOut R X DY (acc0 first acc))) -∗ K ⟨⟩))
      ⊢ wp frame (wpE defs 𝒱 (c : Thread nD τ) bd) E (reduceBody first last arg1 arg2 arg3 arg4 arg5 arg6 arg7 arg8) K := by
  unfold reduceBody midStep endStep amOut cOut
  simp only [wp_bind, wp_pure]
  iintro ⟨H1, H2, H3, H4, H5, H6, H7, H8, Hk⟩
  iapply (zero_wp (defs := defs) 𝒱 c bd E first arg7 arg8 m acc _)
  isplitl [H7]; · iexact H7
  isplitl [H8]; · iexact H8
  iintro ⟨H7, H8⟩
  iapply (load_own (defs := defs) 𝒱 c bd E arg4 all32x1 _ _ _)
  isplitl [H4]; · iexact H4
  rw [rd_32x1, shapeCast_id]
  iintro H4
  iapply (sum_wp (defs := defs) 𝒱 c bd E arg1 arg2 arg3 arg8 R X DY G _ _)
  isplitl [H1]; · iexact H1
  isplitl [H2]; · iexact H2
  isplitl [H3]; · iexact H3
  isplitl [H8]; · iexact H8
  iintro ⟨H1, H2, H3, H8⟩
  iapply (load_own (defs := defs) 𝒱 c bd E arg6 all32x1 _ _ _)
  isplitl [H6]; · iexact H6
  iintro H6
  iapply (store_own (defs := defs) 𝒱 c bd E arg6 all32x1 _ _ _ _ _)
  isplitl [H6]; · iexact H6
  rw [put_32x1]
  iintro H6
  iapply (load_own (defs := defs) 𝒱 c bd E arg7 all8x128 _ _ _)
  isplitl [H7]; · iexact H7
  rw [rd_8x128, shapeCast_id]
  iintro H7
  imodintro
  iapply (max_wp (defs := defs) 𝒱 c bd E arg1 arg2 arg3 R _ X DY G _ _)
  isplitl [H1]; · iexact H1
  isplitl [H2]; · iexact H2
  isplitl [H3]; · iexact H3
  iintro ⟨H1, H2, H3⟩
  iapply (load_own (defs := defs) 𝒱 c bd E arg7 all8x128 _ _ _)
  isplitl [H7]; · iexact H7
  iintro H7
  iapply (store_own (defs := defs) 𝒱 c bd E arg7 all8x128 _ _ _ _ _)
  isplitl [H7]; · iexact H7
  rw [put_8x128]
  iintro H7
  iapply (finish_wp (defs := defs) 𝒱 c bd E last arg5 arg8 d _ _)
  isplitl [H5]; · iexact H5
  isplitl [H8]; · iexact H8
  iintro ⟨H5, H8⟩
  iapply Hk
  isplitl [H1]; · iexact H1
  isplitl [H2]; · iexact H2
  isplitl [H3]; · iexact H3
  isplitl [H4]; · iexact H4
  isplitl [H5]; · iexact H5
  isplitl [H6]; · iexact H6
  isplitl [H7] <;> iassumption

/-- A scalar load gives the one element of the memref's contents. -/
theorem smem_own (m : Memref sig .tc .smem S1x1 .f32) (X : S1x1.Idx → Elt F .f32) (h1 : all1x1.shape.numel = 1) (hp)
    (K : Elt F .f32 → sProp 𝕄) :
    iprop(owns (c : Thread nD τ) m fullShare X ∗ (owns (c : Thread nD τ) m fullShare X -∗ K (X (Shape.Idx.first (by decide)))))
      ⊢ wp frame (wpE defs 𝒱 (c : Thread nD τ) bd) E (smemLoad m all1x1 h1 hp) K := by
  unfold owns
  iintro ⟨⟨%f, %hf, H⟩, Hk⟩
  have h := wp_smemLoadElt (defs := defs) (Γ := ∅) (Q := K) (m := m) (r := all1x1) (hw := View.loads_smem_one hp h1)
    (x := Shape.Idx.first (h1.symm ▸ Nat.one_pos)) (k := Prog.ret) (q := fullShare) (f := f) 𝒱 (c : Thread nD τ) bd E (m.view.set_slice_subset all1x1)
  ihave Hw := h $$ H
  iapply Hw
  iintro H
  rw [wp_ret]
  imodintro
  subst hf
  have e : (m.access all1x1).read (Elt F) f = m.view.read (Elt F) f := rd_1x1 (m.view.read (Elt F) f)
  rw [e]
  iapply Hk
  iexists f
  isplitr; · ipureintro; rfl
  iexact H

/-- The second body, run. -/
theorem quant_wp (arg1 arg2 : Memref sig .tc .vmem S32x27648 .bf16)
    (arg3 : Memref sig .tc .vmem S1x27648 .f32) (arg4 arg5 : Memref sig .tc .vmem S32x1 .f32)
    (arg6 : Memref sig .tc .smem S1x1 .f32) (arg7 : Memref sig .tc .vmem S32x27648 .fp8e5m2) (h7 : arg7.IsWhole)
    (X DY : FVec F S32x27648 .bf16) (G : FVec F S1x27648 .f32) (R c0 : FVec F S32x1 .f32) (inv : FVec F S1x1 .f32)
    (C : FVec F S32x27648 .fp8e5m2) (K : PUnit → sProp 𝕄) :
    iprop(owns (c : Thread nD τ) arg1 fullShare X ∗ owns (c : Thread nD τ) arg2 fullShare DY
        ∗ owns (c : Thread nD τ) arg3 fullShare G ∗ owns (c : Thread nD τ) arg4 fullShare R
        ∗ owns (c : Thread nD τ) arg5 fullShare c0 ∗ owns (c : Thread nD τ) arg6 fullShare inv
        ∗ owns (c : Thread nD τ) arg7 fullShare C
        ∗ (iprop(owns (c : Thread nD τ) arg1 fullShare X ∗ owns (c : Thread nD τ) arg2 fullShare DY
          ∗ owns (c : Thread nD τ) arg3 fullShare G ∗ owns (c : Thread nD τ) arg4 fullShare R
          ∗ owns (c : Thread nD τ) arg5 fullShare c0 ∗ owns (c : Thread nD τ) arg6 fullShare inv
          ∗ owns (c : Thread nD τ) arg7 fullShare (codesOut R c0 (inv (Shape.Idx.first (by decide))) X DY G)) -∗ K ⟨⟩))
      ⊢ wp frame (wpE defs 𝒱 (c : Thread nD τ) bd) E (quantBody arg1 arg2 arg3 arg4 arg5 arg6 arg7 h7) K := by
  unfold quantBody
  simp only [wp_bind]
  iintro ⟨H1, H2, H3, H4, H5, H6, H7, Hk⟩
  iapply (load_own (defs := defs) 𝒱 c bd E arg4 all32x1 _ _ _)
  isplitl [H4]; · iexact H4
  rw [rd_32x1, shapeCast_id]
  iintro H4
  iapply (load_own (defs := defs) 𝒱 c bd E arg5 all32x1 _ _ _)
  isplitl [H5]; · iexact H5
  rw [rd_32x1, shapeCast_id]
  iintro H5
  iapply (smem_own (defs := defs) 𝒱 c bd E arg6 inv _ _ _)
  isplitl [H6]; · iexact H6
  iintro H6
  iapply (code_wp (defs := defs) 𝒱 c bd E arg1 arg2 arg3 arg7 h7 R c0 _ X DY G C _)
  isplitl [H1]; · iexact H1
  isplitl [H2]; · iexact H2
  isplitl [H3]; · iexact H3
  isplitl [H7]; · iexact H7
  iintro ⟨H1, H2, H3, H7⟩
  iapply Hk
  isplitl [H1]; · iexact H1
  isplitl [H2]; · iexact H2
  isplitl [H3]; · iexact H3
  isplitl [H4]; · iexact H4
  isplitl [H5]; · iexact H5
  isplitl [H6] <;> iassumption

end K
-- ==== Proof.K.RegKernel.lean ====
module

public import proofs.«01_k».proof.Proof.Gen.Kernel.Regions
public import proofs.«01_k».proof.Proof.Gen.Kernel.Points
public import proofs.«01_k».proof.Proof.K.EqKernel
public import proofs.«01_k».proof.Proof.K.Wp
public import Idealize.ShloMosaic.Lib.Pipeline.FrameBody
public import Idealize.ShloMosaic.Lib.Pipeline.RegionsLoop
public import Idealize.ShloMosaic.Lib.Tactic

/-!
The two pallas_calls of the program as regions: what each window's buffer holds at each point, that the bodies leave
it so, and the regions entered from and left at a valuation of the unscoped buffers.
-/

@[expose] public section

noncomputable section

namespace K.Bits

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Contents of every reference on every core. -/
abbrev Vals (F : FTy → Type) : Type := (c : Dev nD) → (b : Ref sig .tc) → Buf (Elt F) ((c : Thread nD τ).loc b)

variable (V : Vals F)

/-! ## The first pallas_call: what the buffers hold -/

/-- Window `w`'s block at a point of the first call. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of x, -/
def bx0 (c : Dev nD) (t : Fin cfg0.N) : FVec F K.S32x27648 .bf16 := blk0 V c 0 t
/-- of dy, -/
def bdy0 (c : Dev nD) (t : Fin cfg0.N) : FVec F K.S32x27648 .bf16 := blk0 V c 1 t
/-- of gamma, -/
def bg0 (c : Dev nD) (t : Fin cfg0.N) : FVec F K.S1x27648 .f32 := blk0 V c 2 t
/-- and of rstd. -/
def br0 (c : Dev nD) (t : Fin cfg0.N) : FVec F K.S32x1 .f32 := blk0 V c 3 t

/-- dgamma's partial rows after the first `n` blocks. -/
def accAt (c : Dev nD) : ℕ → FVec F K.S8x27648 .f32
  | 0 => broadcast K.S8x27648 (Scalar.ofBits .f32 0x00000000#32)
  | n + 1 => if h : n < cfg0.N then accOut (br0 V c ⟨n, h⟩) (bx0 V c ⟨n, h⟩) (bdy0 V c ⟨n, h⟩) (accAt c n) else accAt c n

/-- The partial maxima of |dx| after the first `n` blocks. -/
def amAt (c : Dev nD) : ℕ → FVec F K.S8x128 .f32
  | 0 => broadcast K.S8x128 (Scalar.ofBits .f32 0x00000000#32)
  | n + 1 => if h : n < cfg0.N then amOut (br0 V c ⟨n, h⟩) (bx0 V c ⟨n, h⟩) (bdy0 V c ⟨n, h⟩) (bg0 V c ⟨n, h⟩) (amAt c n) else amAt c n

/-- A block adds its rows' terms to dgamma's partial rows. -/
theorem accAt_succ (c : Dev nD) (t : Fin cfg0.N) :
    accAt V c (t.val + 1) = accOut (br0 V c t) (bx0 V c t) (bdy0 V c t) (accAt V c t.val) := by
  conv_lhs => unfold accAt
  rw [dif_pos t.isLt]

/-- A block raises the partial maxima by its own |dx|. -/
theorem amAt_succ (c : Dev nD) (t : Fin cfg0.N) :
    amAt V c (t.val + 1) = amOut (br0 V c t) (bx0 V c t) (bdy0 V c t) (bg0 V c t) (amAt V c t.val) := by
  conv_lhs => unfold amAt
  rw [dif_pos t.isLt]

/-- The first block is block 0, and only it. -/
theorem isFirst_iff : ∀ t : Fin cfg0.N, isFirst (grid0.coords t) = 1#1 ↔ t.val = 0 :=
  (by decide : ∀ t : Fin grid0.N, isFirst (grid0.coords t) = 1#1 ↔ t.val = 0)

/-- The last block is block 127, and only it. -/
theorem isLast_iff : ∀ t : Fin cfg0.N, k0_cond2 (grid0.coords t) = 1#1 ↔ t.val = 127 :=
  (by decide : ∀ t : Fin grid0.N, k0_cond2 (grid0.coords t) = 1#1 ↔ t.val = 127)

/-- The scoped buffers the first call does not touch. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg5_0), ((c : Thread nD τ).loc cc1_stg5_0) ↦{fullShare} f))

/-- The scratch, holding dgamma's partial rows after `n` blocks (anything before the first). -/
def scr (c : Dev nD) (n : ℕ) : sProp 𝕄 :=
  iprop(∃ f : FVec F K.S8x27648 .f32, ⌜n ≠ 0 → f = accAt V c n⌝ ∗ owns (c : Thread nD τ) (Memref.whole cc0_scratch0) fullShare f)

/-- What the first call keeps between points. -/
def phi0 (c : Dev nD) (n : ℕ) : sProp 𝕄 := iprop(scr V c n ∗ others0 c)

/-- The first call's proof data, entered at the contents `V`. -/
def dat0 (c : Dev nD) : Dat τ (Elt F) Unit ℕ (UR sig nD τ) ℕ cfg0 c where
  A w := V c (Pipeline.arrRef spec0 w)
  after w t := match w with
    | ⟨0, _⟩ => bx0 V c t
    | ⟨1, _⟩ => bdy0 V c t
    | ⟨2, _⟩ => bg0 V c t
    | ⟨3, _⟩ => br0 V c t
    | ⟨4, _⟩ => dgammaOf (accAt V c (t.val + 1))
    | ⟨5, _⟩ => cOut (br0 V c t) (bx0 V c t) (bdy0 V c t) (bg0 V c t)
    | ⟨6, _⟩ => amAt V c (t.val + 1)
  Φ t := phi0 V c t.val
  q _ := fullShare
  owed _ := 0

/-- The first call's arrays start as at entry. -/
theorem A0_eq (c : Dev nD) (w : Fin cfg0.W) : (dat0 V c).A w = V c (Pipeline.arrRef spec0 w) := by dsimp only [dat0]

/-- After a point of the first call, window 0's buffer holds the block of x. -/
theorem after0_0 (c : Dev nD) (t : Fin cfg0.N) : (dat0 V c).after 0 t = bx0 V c t := by dsimp only [dat0]
/-- After a point of the first call, window 1's buffer holds the block of dy. -/
theorem after0_1 (c : Dev nD) (t : Fin cfg0.N) : (dat0 V c).after 1 t = bdy0 V c t := by dsimp only [dat0]
/-- After a point of the first call, window 2's buffer holds gamma. -/
theorem after0_2 (c : Dev nD) (t : Fin cfg0.N) : (dat0 V c).after 2 t = bg0 V c t := by dsimp only [dat0]
/-- After a point of the first call, window 3's buffer holds the block of rstd. -/
theorem after0_3 (c : Dev nD) (t : Fin cfg0.N) : (dat0 V c).after 3 t = br0 V c t := by dsimp only [dat0]
/-- After a point of the first call, window 4's buffer holds dgamma from the partial rows so far. -/
theorem after0_4 (c : Dev nD) (t : Fin cfg0.N) : (dat0 V c).after 4 t = dgammaOf (accAt V c (t.val + 1)) := by dsimp only [dat0]
/-- After a point of the first call, window 5's buffer holds the means of the block's rows. -/
theorem after0_5 (c : Dev nD) (t : Fin cfg0.N) :
    (dat0 V c).after 5 t = cOut (br0 V c t) (bx0 V c t) (bdy0 V c t) (bg0 V c t) := by dsimp only [dat0]
/-- After a point of the first call, window 6's buffer holds the partial maxima so far. -/
theorem after0_6 (c : Dev nD) (t : Fin cfg0.N) : (dat0 V c).after 6 t = amAt V c (t.val + 1) := by dsimp only [dat0]

/-- Before a point of the first call, window 0's buffer holds the block of x. -/
theorem before0_0 (c : Dev nD) (t : Fin cfg0.N) (d) : (dat0 V c).before 0 t d = bx0 V c t :=
  ((dat0 V c).before_in_eq_fetched 0 rfl (fun _ => rfl) (fun _ _ _ => rfl)
    (fun t => by rw [after0_0]; unfold Dat.blockOf bx0 blk0; rw [A0_eq]; try rfl) t d).trans
    (by unfold Dat.fetched Dat.blockOf bx0 blk0; rw [A0_eq]; try rfl)
/-- Before a point of the first call, window 1's buffer holds the block of dy. -/
theorem before0_1 (c : Dev nD) (t : Fin cfg0.N) (d) : (dat0 V c).before 1 t d = bdy0 V c t :=
  ((dat0 V c).before_in_eq_fetched 1 rfl (fun _ => rfl) (fun _ _ _ => rfl)
    (fun t => by rw [after0_1]; unfold Dat.blockOf bdy0 blk0; rw [A0_eq]; try rfl) t d).trans
    (by unfold Dat.fetched Dat.blockOf bdy0 blk0; rw [A0_eq]; try rfl)
/-- Before a point of the first call, window 2's buffer holds gamma. -/
theorem before0_2 (c : Dev nD) (t : Fin cfg0.N) (d) : (dat0 V c).before 2 t d = bg0 V c t :=
  ((dat0 V c).before_in_eq_fetched 2 rfl (fun _ => rfl) (fun _ _ _ => rfl)
    (fun t => by rw [after0_2]; unfold Dat.blockOf bg0 blk0; rw [A0_eq]; try rfl) t d).trans
    (by unfold Dat.fetched Dat.blockOf bg0 blk0; rw [A0_eq]; try rfl)
/-- Before a point of the first call, window 3's buffer holds the block of rstd. -/
theorem before0_3 (c : Dev nD) (t : Fin cfg0.N) (d) : (dat0 V c).before 3 t d = br0 V c t :=
  ((dat0 V c).before_in_eq_fetched 3 rfl (fun _ => rfl) (fun _ _ _ => rfl)
    (fun t => by rw [after0_3]; unfold Dat.blockOf br0 blk0; rw [A0_eq]; try rfl) t d).trans
    (by unfold Dat.fetched Dat.blockOf br0 blk0; rw [A0_eq]; try rfl)

/-- The maxima's buffer holds, after the first block, what the block before left. -/
theorem before0_6 (c : Dev nD) (t : Fin cfg0.N) (ht : t.val ≠ 0) (d) : (dat0 V c).before 6 t d = amAt V c t.val := by
  have hN : t.val < 128 := N_0 ▸ t.isLt
  have hf : (cfg0.win 6).flush ⟨t.val - 1, Nat.lt_of_le_of_lt (Nat.sub_le _ _) t.isLt⟩ = false := by
    rw [Bool.eq_false_iff, Ne, flush0_6]
    show ¬ (t.val - 1) % 128 = 127
    omega
  rw [(dat0 V c).before_out_kept 6 rfl t ht hf (fun _ => rfl) (fun _ _ => rfl) d, after0_6]
  congr 1
  show t.val - 1 + 1 = t.val
  omega

/-- The partial rows a block starts from are those the blocks before left. -/
theorem acc0_eq (c : Dev nD) (t : Fin cfg0.N) (f : FVec F K.S8x27648 .f32) (h : t.val ≠ 0 → f = accAt V c t.val) :
    acc0 (isFirst (grid0.coords t)) f = accAt V c t.val := by
  unfold acc0
  by_cases ht : t.val = 0
  · rw [if_pos ((isFirst_iff t).mpr ht), ht]; rfl
  · rw [if_neg (fun h' => ht ((isFirst_iff t).mp h')), h ht]

/-- The maxima a block starts from are those the blocks before left. -/
theorem max0_eq (c : Dev nD) (t : Fin cfg0.N) (d) :
    max0 (isFirst (grid0.coords t)) ((dat0 V c).before 6 t d) = amAt V c t.val := by
  unfold max0
  by_cases ht : t.val = 0
  · rw [if_pos ((isFirst_iff t).mpr ht), ht]; rfl
  · rw [if_neg (fun h' => ht ((isFirst_iff t).mp h')), before0_6 V c t ht]

/-! ## The first body's obligation -/

/-- The body run at a point of the first call is the printed first body. -/
theorem defs₀_row0 (t : Fin cfg0.N) : defs₀ (F := F) .tc cfg0.body (cfg0.bodyArgs t (cfg0.slots t)) = bodyAt0 t := by
  unfold defs₀; rw [Defs.onTc_tc]

/-- dgamma's buffer after a point: dgamma at the last point, untouched before it. -/
theorem leaves0_4 (c : Dev nD) (t : Fin cfg0.N) (d) :
    owns (c : Thread nD τ) (st0_4 t) fullShare (dgOut (k0_cond2 (grid0.coords t)) (accAt V c (t.val + 1)) ((dat0 V c).before 4 t d))
      ⊢ (dat0 V c).leavesExact 4 t := by
  have hN : t.val < 128 := N_0 ▸ t.isLt
  unfold Dat.leavesExact
  by_cases ht : t.val = 127
  · have h : k0_cond2 (grid0.coords t) = 1#1 := (isLast_iff t).mpr ht
    rw [show cfg0.idle 4 (cfg0.grid.coords t) = false from by show (!(k0_cond2 (grid0.coords t) == 1#1)) = false; rw [h]; rfl]
    dsimp only
    rw [after0_4]
    unfold dgOut
    rw [if_pos h]
  · have h : ¬ k0_cond2 (grid0.coords t) = 1#1 := fun h => ht ((isLast_iff t).mp h)
    have hf : (cfg0.win 4).flush t = false := by
      rw [Bool.eq_false_iff, Ne, flush0_4]; omega
    rw [show cfg0.idle 4 (cfg0.grid.coords t) = true from by
      show (!(k0_cond2 (grid0.coords t) == 1#1)) = true
      rw [Bool.not_eq_true', beq_eq_false_iff_ne]; exact h]
    rw [hf]
    dsimp only
    unfold dgOut
    rw [if_neg h]
    iintro H
    iexists d
    iexact H

set_option maxHeartbeats 1000000 in
/-- The first body leaves every buffer as the proof data says. -/
theorem body0 (c : Dev nD) : BodyObligation (dat0 V c) (defs₀ (F := F)) Variants.none () Set.univ := fun t => by
  rw [bigSep_W0, bigSep_W0, defs₀_row0]
  unfold bodyAt0
  rw [reduce_eq]
  rw [show (dat0 V c).Φ t.castSucc = phi0 V c t.val from rfl, show (dat0 V c).Φ t.succ = phi0 V c (t.val + 1) from rfl,
    show (dat0 V c).owesAt () t.succ = (dat0 V c).owesAt () t.castSucc from rfl]
  unfold phi0 scr
  simp only [before0_0, before0_1, before0_2, before0_3]
  iintro ⟨⟨⟨%f, %hf, Hs⟩, Hr⟩, Ho, ⟨%d0, H0⟩, ⟨%d1, H1⟩, ⟨%d2, H2⟩, ⟨%d3, H3⟩, ⟨%d4, H4⟩, ⟨%d5, H5⟩, ⟨%d6, H6⟩⟩
  iapply (reduce_wp (defs := defs₀ (F := F)) Variants.none c none Set.univ (isFirst (grid0.coords t)) (k0_cond2 (grid0.coords t)) _ _ _ _ _ _ _ _
    (bx0 V c t) (bdy0 V c t) (bg0 V c t) (br0 V c t) ((dat0 V c).before 4 t d4) ((dat0 V c).before 5 t d5) ((dat0 V c).before 6 t d6) f _)
  rw [acc0_eq V c t f hf, max0_eq V c t d6, ← accAt_succ, ← amAt_succ]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hs]; · iexact Hs
  iintro ⟨H0, H1, H2, H3, H4, H5, H6, Hs⟩
  isplitl [Hs Hr]
  · isplitl [Hs]
    · iexists (accAt V c (t.val + 1))
      isplitr; · ipureintro; exact fun _ => rfl
      iexact Hs
    iexact Hr
  isplitl [Ho]; · iexact Ho
  isplitl [H0]; · iexact H0
  isplitl [H1]; · iexact H1
  isplitl [H2]; · iexact H2
  isplitl [H3]; · iexact H3
  isplitl [H4]
  · ihave H := (leaves0_4 V c t d4) $$ H4
    iexact H
  isplitl [H5]; · iexact H5
  iexact H6

/-! ## The second pallas_call -/

/-- Window `w`'s block at a point of the second call. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of x, -/
def bx1 (c : Dev nD) (t : Fin cfg1.N) : FVec F K.S32x27648 .bf16 := blk1 V c 0 t
/-- of dy, -/
def bdy1 (c : Dev nD) (t : Fin cfg1.N) : FVec F K.S32x27648 .bf16 := blk1 V c 1 t
/-- of gamma, -/
def bg1 (c : Dev nD) (t : Fin cfg1.N) : FVec F K.S1x27648 .f32 := blk1 V c 2 t
/-- of rstd, -/
def br1 (c : Dev nD) (t : Fin cfg1.N) : FVec F K.S32x1 .f32 := blk1 V c 3 t
/-- of the means, -/
def bc1 (c : Dev nD) (t : Fin cfg1.N) : FVec F K.S32x1 .f32 := blk1 V c 4 t
/-- and the inverse scale. -/
def bi1 (c : Dev nD) (t : Fin cfg1.N) : FVec F K.S1x1 .f32 := blk1 V c 5 t

/-- The second call's proof data, entered at the contents `V`. -/
def dat1 (c : Dev nD) : Dat τ (Elt F) Unit ℕ (UR sig nD τ) ℕ cfg1 c where
  A w := V c (Pipeline.arrRef spec1 w)
  after w t := match w with
    | ⟨0, _⟩ => bx1 V c t
    | ⟨1, _⟩ => bdy1 V c t
    | ⟨2, _⟩ => bg1 V c t
    | ⟨3, _⟩ => br1 V c t
    | ⟨4, _⟩ => bc1 V c t
    | ⟨5, _⟩ => bi1 V c t
    | ⟨6, _⟩ => codesOut (br1 V c t) (bc1 V c t) (bi1 V c t (Shape.Idx.first (by decide))) (bx1 V c t) (bdy1 V c t) (bg1 V c t)
  Φ _ := Pipeline.scopedRest (Ix := Unit) (Name := ℕ) (U := UR sig nD τ) (Lvl := ℕ) (Val := Elt F) spec1 c
  q _ := fullShare
  owed _ := 0

/-- The second call's arrays start as at entry. -/
theorem A1_eq (c : Dev nD) (w : Fin cfg1.W) : (dat1 V c).A w = V c (Pipeline.arrRef spec1 w) := by dsimp only [dat1]

/-- After a point of the second call, window 0's buffer holds the block of x. -/
theorem after1_0 (c : Dev nD) (t : Fin cfg1.N) : (dat1 V c).after 0 t = bx1 V c t := by dsimp only [dat1]
/-- After a point of the second call, window 1's buffer holds the block of dy. -/
theorem after1_1 (c : Dev nD) (t : Fin cfg1.N) : (dat1 V c).after 1 t = bdy1 V c t := by dsimp only [dat1]
/-- After a point of the second call, window 2's buffer holds gamma. -/
theorem after1_2 (c : Dev nD) (t : Fin cfg1.N) : (dat1 V c).after 2 t = bg1 V c t := by dsimp only [dat1]
/-- After a point of the second call, window 3's buffer holds the block of rstd. -/
theorem after1_3 (c : Dev nD) (t : Fin cfg1.N) : (dat1 V c).after 3 t = br1 V c t := by dsimp only [dat1]
/-- After a point of the second call, window 4's buffer holds the block of means. -/
theorem after1_4 (c : Dev nD) (t : Fin cfg1.N) : (dat1 V c).after 4 t = bc1 V c t := by dsimp only [dat1]
/-- After a point of the second call, window 5's buffer holds the inverse scale. -/
theorem after1_5 (c : Dev nD) (t : Fin cfg1.N) : (dat1 V c).after 5 t = bi1 V c t := by dsimp only [dat1]
/-- After a point of the second call, window 6's buffer holds the block's codes. -/
theorem after1_6 (c : Dev nD) (t : Fin cfg1.N) : (dat1 V c).after 6 t
    = codesOut (br1 V c t) (bc1 V c t) (bi1 V c t (Shape.Idx.first (by decide))) (bx1 V c t) (bdy1 V c t) (bg1 V c t) := by
  dsimp only [dat1]

/-- Before a point of the second call, window 0's buffer holds the block of x. -/
theorem before1_0 (c : Dev nD) (t : Fin cfg1.N) (d) : (dat1 V c).before 0 t d = bx1 V c t :=
  ((dat1 V c).before_in_eq_fetched 0 rfl (fun _ => rfl) (fun _ _ _ => rfl)
    (fun t => by rw [after1_0]; unfold Dat.blockOf bx1 blk1; rw [A1_eq]; try rfl) t d).trans
    (by unfold Dat.fetched Dat.blockOf bx1 blk1; rw [A1_eq]; try rfl)
/-- Before a point of the second call, window 1's buffer holds the block of dy. -/
theorem before1_1 (c : Dev nD) (t : Fin cfg1.N) (d) : (dat1 V c).before 1 t d = bdy1 V c t :=
  ((dat1 V c).before_in_eq_fetched 1 rfl (fun _ => rfl) (fun _ _ _ => rfl)
    (fun t => by rw [after1_1]; unfold Dat.blockOf bdy1 blk1; rw [A1_eq]; try rfl) t d).trans
    (by unfold Dat.fetched Dat.blockOf bdy1 blk1; rw [A1_eq]; try rfl)
/-- Before a point of the second call, window 2's buffer holds gamma. -/
theorem before1_2 (c : Dev nD) (t : Fin cfg1.N) (d) : (dat1 V c).before 2 t d = bg1 V c t :=
  ((dat1 V c).before_in_eq_fetched 2 rfl (fun _ => rfl) (fun _ _ _ => rfl)
    (fun t => by rw [after1_2]; unfold Dat.blockOf bg1 blk1; rw [A1_eq]; try rfl) t d).trans
    (by unfold Dat.fetched Dat.blockOf bg1 blk1; rw [A1_eq]; try rfl)
/-- Before a point of the second call, window 3's buffer holds the block of rstd. -/
theorem before1_3 (c : Dev nD) (t : Fin cfg1.N) (d) : (dat1 V c).before 3 t d = br1 V c t :=
  ((dat1 V c).before_in_eq_fetched 3 rfl (fun _ => rfl) (fun _ _ _ => rfl)
    (fun t => by rw [after1_3]; unfold Dat.blockOf br1 blk1; rw [A1_eq]; try rfl) t d).trans
    (by unfold Dat.fetched Dat.blockOf br1 blk1; rw [A1_eq]; try rfl)
/-- Before a point of the second call, window 4's buffer holds the block of means. -/
theorem before1_4 (c : Dev nD) (t : Fin cfg1.N) (d) : (dat1 V c).before 4 t d = bc1 V c t :=
  ((dat1 V c).before_in_eq_fetched 4 rfl (fun _ => rfl) (fun _ _ _ => rfl)
    (fun t => by rw [after1_4]; unfold Dat.blockOf bc1 blk1; rw [A1_eq]; try rfl) t d).trans
    (by unfold Dat.fetched Dat.blockOf bc1 blk1; rw [A1_eq]; try rfl)
/-- Before a point of the second call, window 5's buffer holds the inverse scale. -/
theorem before1_5 (c : Dev nD) (t : Fin cfg1.N) (d) : (dat1 V c).before 5 t d = bi1 V c t :=
  ((dat1 V c).before_in_eq_fetched 5 rfl (fun _ => rfl) (fun _ _ _ => rfl)
    (fun t => by rw [after1_5]; unfold Dat.blockOf bi1 blk1; rw [A1_eq]; try rfl) t d).trans
    (by unfold Dat.fetched Dat.blockOf bi1 blk1; rw [A1_eq]; try rfl)

/-- The body run at a point of the second call is the printed second body. -/
theorem defs₀_row1 (t : Fin cfg1.N) : defs₀ (F := F) .tc cfg1.body (cfg1.bodyArgs t (cfg1.slots t)) = bodyAt1 t := by
  unfold defs₀; rw [Defs.onTc_tc]

set_option maxHeartbeats 1000000 in
/-- The second body leaves every buffer as the proof data says. -/
theorem body1 (c : Dev nD) : BodyObligation (dat1 V c) (defs₀ (F := F)) Variants.none () Set.univ := fun t => by
  rw [bigSep_W1, bigSep_W1, defs₀_row1]
  unfold bodyAt1
  rw [quant_eq]
  rw [show (dat1 V c).Φ t.succ = (dat1 V c).Φ t.castSucc from rfl,
    show (dat1 V c).owesAt () t.succ = (dat1 V c).owesAt () t.castSucc from rfl]
  simp only [before1_0, before1_1, before1_2, before1_3, before1_4, before1_5]
  iintro ⟨Hr, Ho, ⟨%d0, H0⟩, ⟨%d1, H1⟩, ⟨%d2, H2⟩, ⟨%d3, H3⟩, ⟨%d4, H4⟩, ⟨%d5, H5⟩, ⟨%d6, H6⟩⟩
  iapply (quant_wp (defs := defs₀ (F := F)) Variants.none c none Set.univ _ _ _ _ _ _ _ _
    (bx1 V c t) (bdy1 V c t) (bg1 V c t) (br1 V c t) (bc1 V c t) (bi1 V c t) ((dat1 V c).before 6 t d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [Hr]; · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## The inputs' arrays at the end are as at entry -/

/-- The first call leaves x as at entry. -/
theorem arr0_0 (c : Dev nD) : (dat0 V c).arrAt 0 cfg0.N = V c main_v0 := ((dat0 V c).arrAt_in 0 rfl _).trans (A0_eq V c 0)
/-- The first call leaves dy as at entry. -/
theorem arr0_1 (c : Dev nD) : (dat0 V c).arrAt 1 cfg0.N = V c main_v1 := ((dat0 V c).arrAt_in 1 rfl _).trans (A0_eq V c 1)
/-- The first call leaves gamma as at entry. -/
theorem arr0_2 (c : Dev nD) : (dat0 V c).arrAt 2 cfg0.N = V c main_v2 := ((dat0 V c).arrAt_in 2 rfl _).trans (A0_eq V c 2)
/-- The first call leaves rstd as at entry. -/
theorem arr0_3 (c : Dev nD) : (dat0 V c).arrAt 3 cfg0.N = V c main_v3 := ((dat0 V c).arrAt_in 3 rfl _).trans (A0_eq V c 3)
/-- The second call leaves x as at entry. -/
theorem arr1_0 (c : Dev nD) : (dat1 V c).arrAt 0 cfg1.N = V c main_v0 := ((dat1 V c).arrAt_in 0 rfl _).trans (A1_eq V c 0)
/-- The second call leaves dy as at entry. -/
theorem arr1_1 (c : Dev nD) : (dat1 V c).arrAt 1 cfg1.N = V c main_v1 := ((dat1 V c).arrAt_in 1 rfl _).trans (A1_eq V c 1)
/-- The second call leaves gamma as at entry. -/
theorem arr1_2 (c : Dev nD) : (dat1 V c).arrAt 2 cfg1.N = V c main_v2 := ((dat1 V c).arrAt_in 2 rfl _).trans (A1_eq V c 2)
/-- The second call leaves rstd as at entry. -/
theorem arr1_3 (c : Dev nD) : (dat1 V c).arrAt 3 cfg1.N = V c main_v3 := ((dat1 V c).arrAt_in 3 rfl _).trans (A1_eq V c 3)
/-- The second call leaves the means as at entry. -/
theorem arr1_4 (c : Dev nD) : (dat1 V c).arrAt 4 cfg1.N = V c main_v4_1 := ((dat1 V c).arrAt_in 4 rfl _).trans (A1_eq V c 4)
/-- The second call leaves the inverse scale as at entry. -/
theorem arr1_5 (c : Dev nD) : (dat1 V c).arrAt 5 cfg1.N = V c main_v36 := ((dat1 V c).arrAt_in 5 rfl _).trans (A1_eq V c 5)

end K.Bits

end
-- ==== Proof.K.RunKernel.lean ====
module

public import proofs.«01_k».proof.Proof.K.RegKernel

/-!
The whole program's run: every argument unchanged, every counter at zero, the three results as the host's last
operations leave them.
-/

@[expose] public section

noncomputable section

namespace K.Bits

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents at the regions' ends -/

/-- What the first call is entered at. -/
def vals0 : Vals F := fun c b => V1 m c b

/-- What the first call leaves: its three results. -/
def outs0 (c : Dev nD) : Valuation τ sig (Elt F) :=
  Function.update (Function.update (Function.update (V1 m c) main_v4_0 ((dat0 (vals0 m) c).arrAt 4 cfg0.N))
    main_v4_1 ((dat0 (vals0 m) c).arrAt 5 cfg0.N)) main_v4_2 ((dat0 (vals0 m) c).arrAt 6 cfg0.N)

/-- What the second call is entered at. -/
def vals1 : Vals F := fun c b => V9 m (fun _ r c => outs0 m c r) c b

/-- What the second call leaves: the codes. -/
def outs1 (c : Dev nD) : Valuation τ sig (Elt F) :=
  Function.update (V9 m (fun _ r c => outs0 m c r) c) main_v37 ((dat1 (vals1 m) c).arrAt 6 cfg1.N)

/-- What the two calls leave. -/
def outs : Outs (F := F) := fun k r c => if k = 2 then outs0 m c r else outs1 m c r

/-- What the host goes on with after the first call is what that call leaves. -/
theorem outs_2 (r : Ref sig .tc) (c : Dev nD) : outs m 2 r c = outs0 m c r := if_pos rfl
/-- What the host goes on with after the second call is what that call leaves. -/
theorem outs_10 (r : Ref sig .tc) (c : Dev nD) : outs m 10 r c = outs1 m c r := if_neg (by decide)

/-- The first call is entered at what the host operations before it leave. -/
theorem vals0_eq (c : Dev nD) (b : Ref sig .tc) : vals0 m c b = V1 m c b := rfl

/-- What the host computes between the calls depends only on what the first call leaves. -/
theorem V9_outs (c : Dev nD) : V9 m (outs m) c = V9 m (fun _ r c => outs0 m c r) c := by
  have h2 : V2 m (outs m) c = V2 m (fun _ r c => outs0 m c r) c := by simp only [V2, outs_2]
  have h3 : V3 m (outs m) c = V3 m (fun _ r c => outs0 m c r) c := congrArg (StableHlo.after hostOps1) h2
  have h4 : V4 m (outs m) c = V4 m (fun _ r c => outs0 m c r) c := congrArg (StableHlo.after hostOps1_1) h3
  have h5 : V5 m (outs m) c = V5 m (fun _ r c => outs0 m c r) c := congrArg (StableHlo.after hostOps1_2) h4
  have h6 : V6 m (outs m) c = V6 m (fun _ r c => outs0 m c r) c := congrArg (StableHlo.after hostOps1_3) h5
  have h7 : V7 m (outs m) c = V7 m (fun _ r c => outs0 m c r) c := congrArg (StableHlo.after hostOps1_4) h6
  have h8 : V8 m (outs m) c = V8 m (fun _ r c => outs0 m c r) c := congrArg (StableHlo.after hostOps1_5) h7
  exact congrArg (StableHlo.after hostOps1_6) h8

/-- The second call is entered at what the host operations before it leave. -/
theorem vals1_eq (c : Dev nD) (b : Ref sig .tc) : vals1 m c b = V9 m (outs m) c b := by rw [V9_outs]; rfl

/-- The first call leaves the maxima's array as its third result. -/
theorem V2_v4_2 (c : Dev nD) : V2 m (outs m) c main_v4_2 = (dat0 (vals0 m) c).arrAt 6 cfg0.N := by
  simp only [V2, outs_2, outs0]
  rw [Function.update_self, Function.update_self]

/-- The first call leaves the means' array as its second result. -/
theorem V2_v4_1 (c : Dev nD) : V2 m (outs m) c main_v4_1 = (dat0 (vals0 m) c).arrAt 5 cfg0.N := by
  simp only [V2, outs_2, outs0]
  rw [Function.update_of_ne (StableHlo.devRef_ne_of_ne (by decide)), Function.update_self,
    Function.update_of_ne (StableHlo.devRef_ne_of_ne (by decide)), Function.update_self]

/-- The first call leaves dgamma's array as its first result. -/
theorem V2_v4_0 (c : Dev nD) : V2 m (outs m) c main_v4_0 = (dat0 (vals0 m) c).arrAt 4 cfg0.N := by
  simp only [V2, outs_2, outs0]
  rw [Function.update_of_ne (StableHlo.devRef_ne_of_ne (by decide)), Function.update_of_ne (StableHlo.devRef_ne_of_ne (by decide)),
    Function.update_self, Function.update_of_ne (StableHlo.devRef_ne_of_ne (by decide)),
    Function.update_of_ne (StableHlo.devRef_ne_of_ne (by decide)), Function.update_self]

/-- The second call leaves the codes' array as its result. -/
theorem V10_v30 (c : Dev nD) : V10 m (outs m) c main_v37 = (dat1 (vals1 m) c).arrAt 6 cfg1.N := by
  simp only [V10, outs_10, outs1]
  rw [Function.update_self, Function.update_self]

/-- The buffers the host holds before the first call are those the call is entered at. -/
theorem held0_eq (c : Dev nD) :
    (StableHlo.held (c : Thread nD τ) (Pipeline.ucRefs τ sig) (V1 m c) : sProp 𝕄) = unscopedBufs c (vals0 m c) :=
  (Pipeline.unscopedBufs_held c _).symm

/-- The buffers the host holds before the second call are those the call is entered at. -/
theorem held1_eq (c : Dev nD) :
    (StableHlo.held (c : Thread nD τ) (Pipeline.ucRefs τ sig) (V9 m (outs m) c) : sProp 𝕄) = unscopedBufs c (vals1 m c) := by
  rw [V9_outs]
  exact (Pipeline.unscopedBufs_held c _).symm

/-- What the first call leaves every buffer at. -/
def vals2 : Vals F := fun c b => V2 m (outs m) c b
/-- What the second call leaves every buffer at. -/
def vals10 : Vals F := fun c b => V10 m (outs m) c b
/-- The contents after the first call, by name. -/
theorem vals2_eq (c : Dev nD) (b : Ref sig .tc) : vals2 m c b = V2 m (outs m) c b := rfl
/-- The contents after the second call, by name. -/
theorem vals10_eq (c : Dev nD) (b : Ref sig .tc) : vals10 m c b = V10 m (outs m) c b := rfl
/-- The buffers the host holds after the first call are those the call leaves. -/
theorem held2_eq (c : Dev nD) :
    (StableHlo.held (c : Thread nD τ) (Pipeline.ucRefs τ sig) (V2 m (outs m) c) : sProp 𝕄) = unscopedBufs c (vals2 m c) :=
  (Pipeline.unscopedBufs_held c _).symm
/-- The buffers the host holds after the second call are those the call leaves. -/
theorem held10_eq (c : Dev nD) :
    (StableHlo.held (c : Thread nD τ) (Pipeline.ucRefs τ sig) (V10 m (outs m) c) : sProp 𝕄) = unscopedBufs c (vals10 m c) :=
  (Pipeline.unscopedBufs_held c _).symm

/-- The first call's final arrays are the contents it leaves, -/
theorem fin0 (c : Dev nD) : ∀ w : Fin cfg0.W, (dat0 (vals0 m) c).arrAt w cfg0.N = vals2 m c (Pipeline.arrRef spec0 w)
  | 0 => (arr0_0 (vals0 m) c).trans ((vals0_eq m c main_v0).trans (V2_of m (outs m) c main_v0 (by decide)).symm)
  | 1 => (arr0_1 (vals0 m) c).trans ((vals0_eq m c main_v1).trans (V2_of m (outs m) c main_v1 (by decide)).symm)
  | 2 => (arr0_2 (vals0 m) c).trans ((vals0_eq m c main_v2).trans (V2_of m (outs m) c main_v2 (by decide)).symm)
  | 3 => (arr0_3 (vals0 m) c).trans ((vals0_eq m c main_v3).trans (V2_of m (outs m) c main_v3 (by decide)).symm)
  | 4 => (V2_v4_0 m c).symm
  | 5 => (V2_v4_1 m c).symm
  | 6 => (V2_v4_2 m c).symm

/-- which are the entry's off its arrays. -/
theorem off0 (c : Dev nD) (b : Ref sig .tc) (hb : b ∉ Finset.univ.image (Pipeline.arrRef spec0)) : vals2 m c b = vals0 m c b :=
  (V2_of m (outs m) c b (fun h => hb (by
    rcases List.mem_cons.mp h with rfl | h
    · exact Finset.mem_image.mpr ⟨4, Finset.mem_univ _, rfl⟩
    rcases List.mem_cons.mp h with rfl | h
    · exact Finset.mem_image.mpr ⟨5, Finset.mem_univ _, rfl⟩
    rcases List.mem_cons.mp h with rfl | h
    · exact Finset.mem_image.mpr ⟨6, Finset.mem_univ _, rfl⟩
    exact absurd h List.not_mem_nil))).trans (vals0_eq m c b).symm

/-- The second call's final arrays are the contents it leaves, -/
theorem fin1 (c : Dev nD) : ∀ w : Fin cfg1.W, (dat1 (vals1 m) c).arrAt w cfg1.N = vals10 m c (Pipeline.arrRef spec1 w)
  | 0 => (arr1_0 (vals1 m) c).trans ((vals1_eq m c main_v0).trans (V10_of m (outs m) c main_v0 (by decide)).symm)
  | 1 => (arr1_1 (vals1 m) c).trans ((vals1_eq m c main_v1).trans (V10_of m (outs m) c main_v1 (by decide)).symm)
  | 2 => (arr1_2 (vals1 m) c).trans ((vals1_eq m c main_v2).trans (V10_of m (outs m) c main_v2 (by decide)).symm)
  | 3 => (arr1_3 (vals1 m) c).trans ((vals1_eq m c main_v3).trans (V10_of m (outs m) c main_v3 (by decide)).symm)
  | 4 => (arr1_4 (vals1 m) c).trans ((vals1_eq m c main_v4_1).trans (V10_of m (outs m) c main_v4_1 (by decide)).symm)
  | 5 => (arr1_5 (vals1 m) c).trans ((vals1_eq m c main_v36).trans (V10_of m (outs m) c main_v36 (by decide)).symm)
  | 6 => (V10_v30 m c).symm

/-- which are the entry's off its arrays. -/
theorem off1 (c : Dev nD) (b : Ref sig .tc) (hb : b ∉ Finset.univ.image (Pipeline.arrRef spec1)) : vals10 m c b = vals1 m c b :=
  (V10_of m (outs m) c b (fun h => hb (by
    rcases List.mem_cons.mp h with rfl | h
    · exact Finset.mem_image.mpr ⟨6, Finset.mem_univ _, rfl⟩
    exact absurd h List.not_mem_nil))).trans (vals1_eq m c b).symm

attribute [local irreducible] vals0 vals1 vals2 vals10 outs outs0 outs1

/-! ## The regions -/

/-- Both calls' proof data. -/
def pdats : (p : Fin 2) → (c : Dev nD) → Dat τ (Elt F) Unit ℕ (UR sig nD τ) ℕ (cfgs p) c
  | ⟨0, _⟩ => fun c => dat0 (vals0 m) c
  | ⟨1, _⟩ => fun c => dat1 (vals1 m) c

/-- No core owes another anything. -/
abbrev L : GSem nD τ sig → Finset Unit := fun _ => ∅
/-- Every semaphore has level zero. -/
abbrev lv : GSem nD τ sig → Unit → ℕ := fun _ _ => 0

/-- The core owes nothing. -/
abbrev nothing (c : Dev nD) : sProp 𝕄 := iprop(∃ W, owes (c : Thread nD τ) (0 : CellTallies nD τ sig Unit) W)

/-- The scratch can be given back, whatever it holds. -/
theorem scr_out (V : Vals F) (c : Dev nD) (n : ℕ) :
    scr V c n ⊢ iprop(∃ f : Buf (Elt F) ((c : Thread nD τ).loc cc0_scratch0), ((c : Thread nD τ).loc cc0_scratch0) ↦{fullShare} f) := by
  unfold scr
  simp only [owns_whole_eq]
  iintro ⟨%f, -, %g, -, Hs⟩
  iexists g
  iexact Hs

/-- The buffers scoped to the first call's region are its scratch and those it does not touch. -/
theorem scoped0_eq (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ others0 c) :=
  scopedRest0_eq c

set_option backward.isDefEq.respectTransparency.types false in
/-- The first call as a region. -/
def reg0 : RegionSeg (pcfgs (F := F)) adm (pdats m) () defs₀ Variants.none L lv 0 where
  win := (launch0).win.to₀
  block_pos := (launch0).block_pos
  stage_whole := (launch0).stage_whole
  K := PEmpty
  osem k := k.elim
  ho := Pipeline.OwnSemFacts.none _
  hbody c := (body0 (vals0 m) c).loose
  hwaits := Pipeline.hwaits_of_owed_zero _ _ _ _ L lv 0 fun _ _ => rfl
  pre c := iprop(StableHlo.held (c : Thread nD τ) (Pipeline.ucRefs τ sig) (V1 m c) ∗ nothing c)
  post c := iprop(StableHlo.held (c : Thread nD τ) (Pipeline.ucRefs τ sig) (V2 m (outs m) c) ∗ nothing c)
  X _ := BI.emp
  Y _ := BI.emp
  Z c := Pipeline.unscopedRest (Ix := Unit) (Name := ℕ) (U := UR sig nD τ) (Lvl := ℕ) spec0 c (vals0 m c)
  hentry c := by
    rw [Pipeline.ownSems0_none,
      held0_eq m c]
    have hsplit := Pipeline.arrays_of_unscopedBufs (p := 0) (pcfgs (F := F)) adm (pdats m) (launch0).win (launch0).arr_whole c
      ((pdats m 0 c).share_full fun _ => rfl) (vals0 m c) (fun w => A0_eq (vals0 m) c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = phi0 (vals0 m) c 0 from rfl,
      show (Pipeline.scopedRest (Pipeline.pin (pcfgs (F := F)) adm 0).spec c : sProp 𝕄) = _ from scoped0_eq c]
    unfold phi0 scr
    iintro ⟨-, -, ⟨⟨%f, Hs⟩, Hr⟩⟩
    isplitl [Hs]
    · iexists f
      isplitr; · ipureintro; exact fun h => absurd rfl h
      rw [owns_whole_eq]
      iexists f
      isplitr; · ipureintro; rfl
      iexact Hs
    iexact Hr
  hout c := by
    rw [Pipeline.ownSems0_none, show (pdats m 0 c).Φ (Fin.last _) = phi0 (vals0 m) c cfg0.N from rfl,
      show (Pipeline.scopedRest (Pipeline.pin (pcfgs (F := F)) adm 0).spec c : sProp 𝕄) = _ from scoped0_eq c]
    unfold phi0
    iintro ⟨Hs, Hr⟩
    isplitr; · iempintro
    isplitr; · iempintro
    isplitl [Hs]
    · iapply (scr_out (vals0 m) c cfg0.N)
      iexact Hs
    iexact Hr
  hexit c := by
    rw [held2_eq m c]
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (vals0 m c) (vals2 m c) ((pdats m 0 c).arrAt · cfg0.N)
      (fin0 m c) (off0 m c)
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The second call as a region. -/
def reg1 : RegionSeg (pcfgs (F := F)) adm (pdats m) () defs₀ Variants.none L lv 1 where
  win := (launch1).win.to₀
  block_pos := (launch1).block_pos
  stage_whole := (launch1).stage_whole
  K := PEmpty
  osem k := k.elim
  ho := Pipeline.OwnSemFacts.none _
  hbody c := (body1 (vals1 m) c).loose
  hwaits := Pipeline.hwaits_of_owed_zero _ _ _ _ L lv 1 fun _ _ => rfl
  pre c := iprop(StableHlo.held (c : Thread nD τ) (Pipeline.ucRefs τ sig) (V9 m (outs m) c) ∗ nothing c)
  post c := iprop(StableHlo.held (c : Thread nD τ) (Pipeline.ucRefs τ sig) (V10 m (outs m) c) ∗ nothing c)
  X _ := BI.emp
  Y _ := BI.emp
  Z c := Pipeline.unscopedRest (Ix := Unit) (Name := ℕ) (U := UR sig nD τ) (Lvl := ℕ) spec1 c (vals1 m c)
  hentry c := by
    rw [Pipeline.ownSems0_none, held1_eq m c]
    have hsplit := Pipeline.arrays_of_unscopedBufs (p := 1) (pcfgs (F := F)) adm (pdats m) (launch1).win (launch1).arr_whole c
      ((pdats m 1 c).share_full fun _ => rfl) (vals1 m c) (fun w => A1_eq (vals1 m) c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdats m 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    rw [held10_eq m c]
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (vals1 m c) (vals10 m c) ((pdats m 1 c).arrAt · cfg1.N)
      (fin1 m c) (off1 m c)
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The run -/

/-- The launch element: the pipelines' cells and transfers. -/
abbrev u₀ : UR sig nD τ := initOf (Pipeline.cells cfgs cellOf_inj) (Pipeline.launchToks cfgs cellOf_inj)

variable (ρ : Dev nD → PrngReg)

set_option backward.isDefEq.respectTransparency.types false in
/-- Every fair execution of the program ends with its arguments unchanged, its results as the last host operations leave
    them, and every counter at zero. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v38) = V11 m (outs m) c main_v38
      ∧ r.2.mem ((c.tc : Thread nD τ).loc main_v39) = V11 m (outs m) c main_v39
      ∧ r.2.mem ((c.tc : Thread nD τ).loc main_v40) = V11 m (outs m) c main_v40)
      ∧ r.2.sem = fun _ => 0) := by
  refine Pipeline.θ_run_regions_kit_dev_sems (pcfgs (F := F)) adm (pdats m) () cellOf_inj emb₁ defs₀ Variants.none L lv m ρ main
    (segs m (outs m) Variants.none L lv (fun _ c => nothing c) () (pdats m) (reg0 m) (reg1 m))
    (fun c Q => by
      rewrite [main_chain c, Seg.run_eq_chain,
        show (segs m (outs m) Variants.none L lv (fun _ c => nothing c) () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := 0) (hL := fun _ _ => rfl)
    (G := fun _ => iprop(emp)) (u₀ := u₀) (hu₀ := ?_)
    (T₀ := fun c => iprop(StableHlo.held (c : Thread nD τ) (Pipeline.ucRefs τ sig) (V0 m c) ∗ nothing c))
    (Tₙ := fun c => StableHlo.held (c : Thread nD τ) (Pipeline.ucRefs τ sig) (V11 m (outs m) c))
    (hch := fun c => ⟨.rfl, .rfl, .rfl, .rfl, .rfl, .rfl, .rfl, .rfl, .rfl, .rfl, .rfl, .rfl⟩)
    (hinit := ?_) (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
      ∧ s.mem ((c.tc : Thread nD τ).loc main_v38) = V11 m (outs m) c main_v38 ∧ s.mem ((c.tc : Thread nD τ).loc main_v39) = V11 m (outs m) c main_v39 ∧ s.mem ((c.tc : Thread nD τ).loc main_v40) = V11 m (outs m) c main_v40)
    (hfin := fun c s' => ?_) (hQ := fun _ h hz => ⟨h, funext fun g => hz g (.inr (regions_no_unscoped g.2))⟩)
  · rw [ownU_emb₁]
    iintro Hu
    imodintro
    isplitl [Hu]; · iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V11 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V11_main_arg0 m (outs m) c),
        (h (Proc.devRef .tc main_arg1) (Finset.mem_filter.mpr ⟨StableHlo.devRef_mem_tcRefs main_arg1, by decide⟩)).trans (V11_main_arg1 m (outs m) c),
        (h (Proc.devRef .tc main_arg2) (Finset.mem_filter.mpr ⟨StableHlo.devRef_mem_tcRefs main_arg2, by decide⟩)).trans (V11_main_arg2 m (outs m) c),
        (h (Proc.devRef .tc main_arg3) (Finset.mem_filter.mpr ⟨StableHlo.devRef_mem_tcRefs main_arg3, by decide⟩)).trans (V11_main_arg3 m (outs m) c)⟩,
        h (Proc.devRef .tc main_v38) (Finset.mem_filter.mpr ⟨StableHlo.devRef_mem_tcRefs main_v38, by decide⟩),
        h (Proc.devRef .tc main_v39) (Finset.mem_filter.mpr ⟨StableHlo.devRef_mem_tcRefs main_v39, by decide⟩),
        h (Proc.devRef .tc main_v40) (Finset.mem_filter.mpr ⟨StableHlo.devRef_mem_tcRefs main_v40, by decide⟩)⟩
    · iexact HSI

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).1, h.2⟩) (run m ρ)

end K.Bits

end
-- ==== Proof.K.MathBody.lean ====
module

public import proofs.«01_k».proof.Proof.K.Val
public import proofs.«01_k».proof.Proof.K.Wp
public import Idealize.ShloMosaic.Lib.Pointwise
public import Idealize.ShloMosaic.PureOps.Ideal.Laws

/-!
What the bodies compute over the extended reals, element by element.
-/

@[expose] public section

noncomputable section

namespace K

open Idealize.ShloMosaic Idealize.SL.Sem

/-! ## Indices -/

/-- The `l`-th lane of tile `j`. -/
def lane (j : Fin 216) (l : Fin 128) : Fin 27648 := ⟨128 * j.val + l.val, by omega⟩

/-- A sum over `m * n` places, as a sum over `m` groups of `n`. -/
theorem sum_split (m n N : ℕ) (h : m * n = N) (f : Fin N → EReal) :
    ∑ L : Fin N, f L = ∑ j : Fin m, ∑ l : Fin n, f ⟨n * j.val + l.val, by
      have := j.isLt; have := l.isLt
      calc n * j.val + l.val < n * j.val + n := by omega
        _ = n * (j.val + 1) := by ring
        _ ≤ n * m := Nat.mul_le_mul_left _ (by omega)
        _ = N := by rw [Nat.mul_comm, h]⟩ := by
  subst h
  rw [← Fintype.sum_prod_type']
  refine (Fintype.sum_equiv finProdFinEquiv _ _ fun p => ?_).symm
  congr 1
  apply Fin.ext
  show n * p.1.val + p.2.val = (finProdFinEquiv p).val
  rw [finProdFinEquiv_apply_val]
  omega

/-- The same, the places named by a function. -/
theorem sum_groups {m n N : ℕ} (h : m * n = N) (e : Fin m → Fin n → Fin N) (he : ∀ j l, (e j l).val = n * j.val + l.val)
    (f : Fin N → EReal) : ∑ L : Fin N, f L = ∑ j : Fin m, ∑ l : Fin n, f (e j l) := by
  rw [sum_split m n N h f]
  exact Finset.sum_congr rfl fun j _ => Finset.sum_congr rfl fun l _ => congrArg f (Fin.ext (he j l).symm)

/-- The sum over the lanes, tile by tile. -/
theorem sum_lane (f : Fin 27648 → EReal) : ∑ L, f L = ∑ l : Fin 128, ∑ j : Fin 216, f (lane j l) := by
  rw [sum_split 216 128 27648 (by norm_num) f, Finset.sum_comm]
  rfl

/-- Element `(i, l)` of tile `j` of 32 rows is at lane `128 * j + l`. -/
theorem rd32 {α : Type} (X : S32x27648.Idx → α) (j : Fin 216) (i : Fin 32) (l : Fin 128) :
    rd (tile32 j) X (ix2 i l) = X (ix2 i (lane j l)) := by
  refine congrArg X (funext fun a => Fin.ext ?_)
  match a with
  | 0 => exact tileM_emb0 32 j _
  | 1 => exact tileM_emb1 32 j _

/-- The same of one row. -/
theorem rd1 {α : Type} (X : S1x27648.Idx → α) (j : Fin 216) (l : Fin 128) :
    rd (tile1 j) X (ix2 0 l) = X (ix2 0 (lane j l)) := by
  refine congrArg X (funext fun a => Fin.ext ?_)
  match a with
  | 0 => exact tileM_emb0 1 j _
  | 1 => exact tileM_emb1 1 j _

/-- The same of eight rows. -/
theorem rd8 {α : Type} (X : S8x27648.Idx → α) (j : Fin 216) (k : Fin 8) (l : Fin 128) :
    rd (tile8 j) X (ix2 k l) = X (ix2 k (lane j l)) := by
  refine congrArg X (funext fun a => Fin.ext ?_)
  match a with
  | 0 => exact tileM_emb0 8 j _
  | 1 => exact tileM_emb1 8 j _

/-- Every lane is a lane of a tile. -/
theorem exists_lane (L : Fin 27648) : ∃ j l, lane j l = L :=
  ⟨⟨L.val / 128, by omega⟩, ⟨L.val % 128, by omega⟩, Fin.ext (by show 128 * (L.val / 128) + L.val % 128 = L.val; omega)⟩

/-- Contents put together from tiles have, at a lane of tile `j`, that tile's element. -/
theorem glue_lane {α : Type} {m : Nat} (f : Fin 216 → (⟨2, ![m, 128]⟩ : Shape).Idx → α) (i : Fin m) (j : Fin 216) (l : Fin 128) :
    glue f (ix2 i (lane j l)) = f j (ix2 i l) := by
  have h1 : tileOf (m := m) (ix2 i (lane j l)) = j := Fin.ext (by
    show (128 * j.val + l.val) / 128 = j.val
    omega)
  have h2 : inTile (m := m) (ix2 i (lane j l)) = ix2 i l := by
    funext a
    apply Fin.ext
    match a with
    | 0 => rfl
    | 1 => show (128 * j.val + l.val) % 128 = l.val; omega
  unfold glue
  rw [h1, h2]

/-- The rows a partial row collects. -/
def sub8 (a : Fin 4) (k : Fin 8) : Fin 32 := ⟨a.val * 8 + k.val, by omega⟩

/-! ## A tile -/

/-- A tile's products are `dy * r * x`. -/
theorem prodT_apply (r : FVec Ideal S32x1 .f32) (dy x : FVec Ideal S32x128 .bf16) (i : Fin 32) (l : Fin 128) :
    prodT r dy x (ix2 i l) = (dy (ix2 i l) * r (ix2 i 0)) * x (ix2 i l) := by
  unfold prodT dyr x32
  pointwise

/-- A tile of dgamma's partial rows after a block: row `k` gets the products of four rows. -/
theorem accT_apply (q : FVec Ideal S32x128 .f32) (acc : FVec Ideal S8x128 .f32) (k : Fin 8) (l : Fin 128) :
    accT q acc (ix2 k l) = acc (ix2 k l) + ∑ a : Fin 4, q (ix2 (sub8 a k) l) := by
  unfold accT
  pointwise
  rfl

/-- A tile adds its products times gamma to the running sums. -/
theorem sumT_apply (q : FVec Ideal S32x128 .f32) (g : FVec Ideal S1x128 .f32) (s : FVec Ideal S32x128 .f32) (i : Fin 32) (l : Fin 128) :
    sumT q g s (ix2 i l) = s (ix2 i l) + q (ix2 i l) * g (ix2 0 l) := by
  unfold sumT gam
  pointwise

/-- One over the number of lanes, as the programs write it. -/
def invN : EReal := Ideal.ofBits .f32 0x3817B426#32

/-- A row's mean is the sum of its 128 running sums, times 1/27648. -/
theorem meanOf_apply (s : FVec Ideal S32x128 .f32) (i : Fin 32) :
    meanOf s (ix2 i 0) = (∑ l : Fin 128, s (ix2 i l)) * invN := by
  unfold meanOf invN
  pointwise

/-- A tile of dx, element by element. -/
theorem dxT_apply (r b : FVec Ideal S32x1 .f32) (dy x : FVec Ideal S32x128 .bf16) (g : FVec Ideal S1x128 .f32) (i : Fin 32) (l : Fin 128) :
    dxT r b dy x g (ix2 i l) = (dy (ix2 i l) * r (ix2 i 0)) * g (ix2 0 l) - x (ix2 i l) * b (ix2 i 0) := by
  unfold dxT dyr gam x32
  pointwise

/-- The absolute value over the extended reals. -/
def eabs (x : EReal) : EReal := FloatOps.absf (F := Ideal) (φ := .f32) x

/-- An absolute value is not negative. -/
theorem eabs_nonneg (x : EReal) : 0 ≤ eabs x := by
  show 0 ≤ max x (-x)
  rcases le_total 0 x with h | h
  · exact le_max_of_le_left h
  · exact le_max_of_le_right (EReal.neg_nonneg.mpr h)

/-- Minus infinity, as the programs write it. -/
def negInf : EReal := Ideal.ofBits .f32 0xFF800000#32

/-- A bound of a tile's new maximum is one of the old maximum and of |dx| on four rows. -/
theorem maxT_le (r b : FVec Ideal S32x1 .f32) (dy x : FVec Ideal S32x128 .bf16) (g : FVec Ideal S1x128 .f32) (m : FVec Ideal S8x128 .f32)
    (k : Fin 8) (l : Fin 128) (u : EReal) :
    maxT r b dy x g m (ix2 k l) ≤ u ↔
      m (ix2 k l) ≤ u ∧ (negInf ≤ u ∧ ∀ a : Fin 4, eabs (dxT r b dy x g (ix2 (sub8 a k) l)) ≤ u) := by
  have h : maxT r b dy x g m (ix2 k l) = max (m (ix2 k l))
      (Finset.fold max negInf (fun a : Fin 4 => eabs (dxT r b dy x g (ix2 (sub8 a k) l))) Finset.univ) := by
    unfold maxT negInf
    pointwise
    rfl
  rw [h, max_le_iff, Finset.fold_max_le]
  simp

/-- A code, of `dx * inv`. -/
def clip (z : EReal) : EReal := min (Ideal.ofBits .f32 0x47600000#32) (max (Ideal.ofBits .f32 0xC7600000#32) z)

/-- A tile's codes are dx times the inverse scale, clipped. -/
theorem codeT_apply (r b : FVec Ideal S32x1 .f32) (inv : EReal) (dy x : FVec Ideal S32x128 .bf16) (g : FVec Ideal S1x128 .f32) (i : Fin 32) (l : Fin 128) :
    codeT r b inv dy x g (ix2 i l) = clip (dxT r b dy x g (ix2 i l) * inv) := by
  unfold codeT clip
  pointwise

/-- dgamma is the sum of its eight partial rows. -/
theorem dgammaOf_apply (acc : FVec Ideal S8x27648 .f32) (l : Fin 27648) :
    dgammaOf acc (ix2 0 l) = ∑ k : Fin 8, acc (ix2 k l) := by
  unfold dgammaOf
  pointwise

/-! ## A block -/

/-- If each of the 216 steps adds a term at an index, together they add the sum of the terms. -/
theorem foldV_add {s : Shape} (step : Fin 216 → (s.Idx → EReal) → s.Idx → EReal) (y : s.Idx) (f : Fin 216 → EReal)
    (h : ∀ j v, step j v y = v y + f j) (v : s.Idx → EReal) : foldV step v 216 y = v y + ∑ j, f j := by
  have key : ∀ n (hn : n ≤ 216), foldV step v n y = v y + ∑ j : Fin n, f ⟨j.val, by omega⟩ := by
    intro n
    induction n with
    | zero => intro _; simp [foldV]
    | succ n ih =>
      intro hn
      rw [Fin.sum_univ_castSucc, ← add_assoc]
      have := ih (by omega)
      show (if h : n < 216 then step ⟨n, h⟩ (foldV step v n) else foldV step v n) y = _
      rw [dif_pos (by omega), h, this]
      rfl
  exact key 216 le_rfl

/-- If each of the 216 steps adds a condition on the bounds at an index, together they add all of them. -/
theorem foldV_le {s : Shape} (step : Fin 216 → (s.Idx → EReal) → s.Idx → EReal) (y : s.Idx) (u : EReal) (P : Fin 216 → Prop)
    (h : ∀ j v, step j v y ≤ u ↔ v y ≤ u ∧ P j) (v : s.Idx → EReal) : foldV step v 216 y ≤ u ↔ v y ≤ u ∧ ∀ j, P j := by
  have key : ∀ n (hn : n ≤ 216), foldV step v n y ≤ u ↔ v y ≤ u ∧ ∀ j : Fin 216, j.val < n → P j := by
    intro n
    induction n with
    | zero => intro _; simp [foldV]
    | succ n ih =>
      intro hn
      have := ih (by omega)
      show (if h : n < 216 then step ⟨n, h⟩ (foldV step v n) else foldV step v n) y ≤ u ↔ _
      rw [dif_pos (by omega), h, this]
      constructor
      · rintro ⟨⟨h1, h2⟩, h3⟩
        refine ⟨h1, fun j hj => ?_⟩
        by_cases hj' : j.val < n
        · exact h2 j hj'
        · have : j = ⟨n, by omega⟩ := Fin.ext (by show j.val = n; omega)
          rw [this]; exact h3
      · rintro ⟨h1, h2⟩
        exact ⟨⟨h1, fun j hj => h2 j (by omega)⟩, h2 ⟨n, by omega⟩ (by show n < n + 1; omega)⟩
  rw [key 216 le_rfl]
  exact and_congr_right fun _ => ⟨fun h j => h j j.isLt, fun h j _ => h j⟩

/-- dgamma's partial rows after a block: four rows' terms more in each. -/
theorem accOut_apply (r : FVec Ideal S32x1 .f32) (X DY : FVec Ideal S32x27648 .bf16) (acc : FVec Ideal S8x27648 .f32) (k : Fin 8) (L : Fin 27648) :
    accOut r X DY acc (ix2 k L) = acc (ix2 k L)
      + ∑ a : Fin 4, (DY (ix2 (sub8 a k) L) * r (ix2 (sub8 a k) 0)) * X (ix2 (sub8 a k) L) := by
  obtain ⟨j, l, rfl⟩ := exists_lane L
  unfold accOut
  rw [glue_lane, accT_apply, rd8]
  simp only [prodT_apply, rd32]

/-- The mean of a block's rows. -/
theorem cOut_apply (r : FVec Ideal S32x1 .f32) (X DY : FVec Ideal S32x27648 .bf16) (G : FVec Ideal S1x27648 .f32) (i : Fin 32) :
    cOut r X DY G (ix2 i 0)
      = (∑ L, (DY (ix2 i L) * r (ix2 i 0)) * X (ix2 i L) * G (ix2 0 L)) * invN := by
  unfold cOut
  rw [meanOf_apply, sum_lane]
  congr 1
  refine Finset.sum_congr rfl fun l _ => ?_
  unfold sumOut
  rw [foldV_add _ (ix2 i l) (fun j => (DY (ix2 i (lane j l)) * r (ix2 i 0)) * X (ix2 i (lane j l)) * G (ix2 0 (lane j l)))
    (fun j v => by rw [sumT_apply, prodT_apply, rd32, rd32, rd1])]
  have h0 : (broadcast S32x128 (Scalar.ofBits .f32 0x00000000#32) : FVec Ideal S32x128 .f32) (ix2 i l) = 0 := by pointwise
  rw [h0, zero_add]

/-- dx at an element of a block. -/
def dxB (r b : FVec Ideal S32x1 .f32) (X DY : FVec Ideal S32x27648 .bf16) (G : FVec Ideal S1x27648 .f32) (i : Fin 32) (L : Fin 27648) : EReal :=
  (DY (ix2 i L) * r (ix2 i 0)) * G (ix2 0 L) - X (ix2 i L) * b (ix2 i 0)

/-- The partial maxima after a block are the maxima before and of |dx| on four rows. -/
theorem maxOut_le (r b : FVec Ideal S32x1 .f32) (X DY : FVec Ideal S32x27648 .bf16) (G : FVec Ideal S1x27648 .f32) (m : FVec Ideal S8x128 .f32)
    (k : Fin 8) (l : Fin 128) (u : EReal) :
    maxOut r b X DY G m (ix2 k l) ≤ u ↔
      m (ix2 k l) ≤ u ∧ ∀ j : Fin 216, negInf ≤ u ∧ ∀ a : Fin 4, eabs (dxB r b X DY G (sub8 a k) (lane j l)) ≤ u := by
  unfold maxOut
  refine foldV_le _ (ix2 k l) u _ (fun j v => ?_) m
  rw [maxT_le]
  simp only [dxT_apply, rd32, rd1, dxB]

/-- A block's codes. -/
theorem codesOut_apply (r c : FVec Ideal S32x1 .f32) (inv : EReal) (X DY : FVec Ideal S32x27648 .bf16) (G : FVec Ideal S1x27648 .f32)
    (i : Fin 32) (L : Fin 27648) :
    codesOut r c inv X DY G (ix2 i L) = clip (dxB r (rrc r c) X DY G i L * inv) := by
  obtain ⟨j, l, rfl⟩ := exists_lane L
  unfold codesOut
  rw [glue_lane, codeT_apply, dxT_apply, rd32, rd32, rd1]
  rfl

/-- A row's factor of x is `r * (r * c)`. -/
theorem rrc_apply (r c : FVec Ideal S32x1 .f32) (i : S32x1.Idx) : rrc r c i = r i * (r i * c i) := by
  unfold rrc
  pointwise

end K
-- ==== Proof.K.MathSpec.lean ====
module

public import proofs.«01_k».proof.Proof.K.MathBody

/-!
The results over the extended reals, as plain formulas over 4096 rows of 27648 lanes, and the kernel's orders of summing
and multiplying brought to them.
-/

@[expose] public section

noncomputable section

namespace K

open Idealize.ShloMosaic Idealize.SL.Sem

variable (x dy : Fin 4096 → Fin 27648 → EReal) (g : Fin 27648 → EReal) (r : Fin 4096 → EReal)

/-- dgamma at a lane. -/
def spDg (L : Fin 27648) : EReal := ∑ ρ : Fin 4096, dy ρ L * (x ρ L * r ρ)

/-- A row's mean of `dy * gamma * xhat`. -/
def spC (ρ : Fin 4096) : EReal := (∑ L : Fin 27648, (dy ρ L * g L) * (x ρ L * r ρ)) * invN

/-- dx at an element. -/
def spDx (ρ : Fin 4096) (L : Fin 27648) : EReal := r ρ * (dy ρ L * g L) - r ρ * ((x ρ L * r ρ) * spC x dy g r ρ)

/-- Row `i` of block `t`. -/
def row (t : Fin 128) (i : Fin 32) : Fin 4096 := ⟨32 * t.val + i.val, by omega⟩

/-- The number of row `i` of block `t`. -/
theorem row_val (t : Fin 128) (i : Fin 32) : (row t i).val = 32 * t.val + i.val := rfl

/-- The number of row `k` of group `a` of a block. -/
theorem sub8_val (a : Fin 4) (k : Fin 8) : (sub8 a k).val = 8 * a.val + k.val := by
  unfold sub8; dsimp only; omega

/-- Every row is a row of a block. -/
theorem exists_row (ρ : Fin 4096) : ∃ t i, row t i = ρ :=
  ⟨⟨ρ.val / 32, by omega⟩, ⟨ρ.val % 32, by omega⟩, Fin.ext (by show 32 * (ρ.val / 32) + ρ.val % 32 = ρ.val; omega)⟩

/-- Every row of a block is one of a group of eight. -/
theorem exists_sub8 (i : Fin 32) : ∃ a k, sub8 a k = i :=
  ⟨⟨i.val / 8, by omega⟩, ⟨i.val % 8, by omega⟩, Fin.ext (by show i.val / 8 * 8 + i.val % 8 = i.val; omega)⟩

/-- dgamma's term, in the kernel's order of multiplying. -/
theorem mul_dxr (d x r : EReal) : d * (x * r) = d * r * x := by
  rw [mul_assoc, mul_comm r]

/-- The mean's term, in the kernel's order. -/
theorem mul_dgxr (d g x r : EReal) : (d * g) * (x * r) = d * r * x * g := by ac_rfl

/-- dx's first term, in the kernel's order. -/
theorem mul_rdg (r d g : EReal) : r * (d * g) = d * r * g := by ac_rfl

/-- dx's second term, in the kernel's order. -/
theorem mul_rxrc (r x c : EReal) : r * ((x * r) * c) = x * (r * (r * c)) := by ac_rfl

/-- dgamma, from the eight partial rows' sums over the 128 blocks. -/
theorem spDg_eq (L : Fin 27648) :
    spDg x dy r L = ∑ k : Fin 8, ∑ t : Fin 128, ∑ a : Fin 4, (dy (row t (sub8 a k)) L * r (row t (sub8 a k))) * x (row t (sub8 a k)) L := by
  unfold spDg
  have hN : 128 * 32 = 4096 := by norm_num
  refine (sum_groups (m := 128) (n := 32) hN row row_val (fun ρ => dy ρ L * (x ρ L * r ρ))).trans ?_
  refine Eq.trans ?_ Finset.sum_comm
  refine Finset.sum_congr rfl fun t _ => ?_
  refine (sum_groups (m := 4) (n := 8) (by norm_num) sub8 sub8_val _).trans ?_
  refine Eq.trans ?_ Finset.sum_comm
  exact Finset.sum_congr rfl fun a _ => Finset.sum_congr rfl fun k _ => mul_dxr _ _ _

/-- The mean, in the kernel's order of multiplying. -/
theorem spC_eq (ρ : Fin 4096) : spC x dy g r ρ = (∑ L, (dy ρ L * r ρ) * x ρ L * g L) * invN := by
  unfold spC
  exact congrArg (· * invN) (Finset.sum_congr rfl fun L _ => mul_dgxr _ _ _ _)

/-- dx, in the kernel's order of multiplying. -/
theorem spDx_eq (ρ : Fin 4096) (L : Fin 27648) :
    spDx x dy g r ρ L = (dy ρ L * r ρ) * g L - x ρ L * (r ρ * (r ρ * spC x dy g r ρ)) := by
  unfold spDx
  rw [mul_rdg, mul_rxrc]

/-! ## Rows of the arguments -/

/-- The shape of x and dy. -/
abbrev A3 : Shape := ⟨3, ![2, 2048, 27648]⟩
/-- The shape of rstd. -/
abbrev A2 : Shape := ⟨2, ![2, 2048]⟩
/-- The shape of gamma. -/
abbrev A1 : Shape := ⟨1, ![27648]⟩

/-- The batch of a row, -/
def rb (ρ : Fin 4096) : Fin 2 := ⟨ρ.val / 2048, by omega⟩
/-- its place in the batch, -/
def rs (ρ : Fin 4096) : Fin 2048 := ⟨ρ.val % 2048, by omega⟩
/-- and the row of both. -/
def flat (b : Fin 2) (s : Fin 2048) : Fin 4096 := ⟨b.val * 2048 + s.val, by omega⟩

/-- The batch of a row made of a batch and a place is that batch. -/
theorem rb_flat (b : Fin 2) (s : Fin 2048) : rb (flat b s) = b := Fin.ext (by unfold rb flat; dsimp only; omega)
/-- Its place is that place. -/
theorem rs_flat (b : Fin 2) (s : Fin 2048) : rs (flat b s) = s := Fin.ext (by unfold rs flat; dsimp only; omega)
/-- A row is made of its batch and its place. -/
theorem flat_rb_rs (ρ : Fin 4096) : flat (rb ρ) (rs ρ) = ρ := Fin.ext (by unfold flat rb rs; dsimp only; omega)

/-- A three-axis argument by rows, -/
def rows (X : A3.Idx → EReal) (ρ : Fin 4096) (L : Fin 27648) : EReal := X (ix3 (rb ρ) (rs ρ) L)
/-- gamma by lanes, -/
def lanes (G : A1.Idx → EReal) (L : Fin 27648) : EReal := G (ix1 L)
/-- and rstd by rows. -/
def rowsR (R : A2.Idx → EReal) (ρ : Fin 4096) : EReal := R (ix2 (rb ρ) (rs ρ))

/-- `a` is the greatest of |dx| over all elements, that is, their least upper bound. -/
def IsAmax (a : EReal) : Prop := ∀ u : EReal, a ≤ u ↔ negInf ≤ u ∧ ∀ ρ L, eabs (spDx x dy g r ρ L) ≤ u

/-- There is only one such number. -/
theorem IsAmax.unique {a a' : EReal} (h : IsAmax x dy g r a) (h' : IsAmax x dy g r a') : a = a' :=
  le_antisymm ((h _).mpr ((h' _).mp le_rfl)) ((h' _).mpr ((h _).mp le_rfl))

end K
-- ==== Proof.K.EqKernelIdeal.lean ====
module

public import proofs.«01_k».proof.KernelIdeal
public import proofs.«01_k».proof.Proof.Gen.KernelIdeal
public import proofs.«01_k».proof.Proof.K.Body

@[expose] public section

set_option maxRecDepth 100000
set_option maxHeartbeats 0

noncomputable section

namespace K.Ideal

open Idealize.ShloMosaic Idealize.SL.Sem
open Cert.KernelIdeal

variable {F : FTy → Type} [FloatOps F] [Cert.KernelIdeal.Facts]

/-- The printed second body is `quantBody`, the loop over the tiles. -/
theorem quant_eq (i : grid1.Coords) (arg1) (h1 : arg1.IsWhole) (arg2) (h2 : arg2.IsWhole) (arg3) (h3 : arg3.IsWhole)
    (arg4) (h4 : arg4.IsWhole) (arg5) (h5 : arg5.IsWhole) (arg6) (h6 : arg6.IsWhole) (arg7) (h7 : arg7.IsWhole) :
    cc1_quantise (F := F) i arg1 h1 arg2 h2 arg3 h3 arg4 h4 arg5 h5 arg6 h6 arg7 h7
      = quantBody (nD := nD) (τ := τ) (Λ := Λ₀) arg1 arg2 arg3 arg4 arg5 arg6 arg7 h7 := by
  with_unfolding_all exact rfl

/-- Whether the block is the first. -/
abbrev isFirst (i : grid0.Coords) : BitVec 1 :=
  Scalar.cmpi .ne (Scalar.extui (Scalar.cmpi .eq (BitVec.ofNat 32 (i 0).val) 0#32 : BitVec 1)) 0#32

/-- The printed first body's first stretch is `cut1`, which ends inside tile 108 of the first loop. -/
theorem part214_eq (i : grid0.Coords) (arg1) (h1 : arg1.IsWhole) (arg2) (h2 : arg2.IsWhole) (arg3) (h3 : arg3.IsWhole)
    (arg4) (h4 : arg4.IsWhole) (arg5) (h5 : arg5.IsWhole) (arg6) (h6 : arg6.IsWhole) (arg7) (h7 : arg7.IsWhole)
    (arg8) (h8 : arg8.IsWhole) :
    k0_part214 (F := F) i arg1 h1 arg2 h2 arg3 h3 arg4 h4 arg5 h5 arg6 h6 arg7 h7 arg8 h8
      = cut1 (isFirst i) (BitVec.ofNat 32 (i 0).val) arg1 arg2 arg3 arg4 arg7 arg8 := by
  by_cases hc : isFirst i = 1#1
  · unfold k0_part214 k0_part1 cut1 zeroFill
    unfold isFirst at *
    simp only [dif_pos hc]
    with_unfolding_all exact rfl
  · unfold k0_part214 k0_part1 cut1 zeroFill
    unfold isFirst at *
    simp only [dif_neg hc]
    with_unfolding_all exact rfl

/-- Its second stretch is `cut2`, which ends inside tile 1 of the second loop. -/
theorem part215_eq (i : grid0.Coords) (arg1) (h1 : arg1.IsWhole) (arg2) (h2 : arg2.IsWhole) (arg3) (h3 : arg3.IsWhole)
    (arg4) (h4 : arg4.IsWhole) (arg5) (h5 : arg5.IsWhole) (arg6) (h6 : arg6.IsWhole) (arg7) (h7 : arg7.IsWhole)
    (arg8) (h8 : arg8.IsWhole) (r : FVec F K.S32x1 .f32) (s q : FVec F K.S32x128 .f32) (acc acc' : FVec F K.S8x128 .f32) :
    k0_part215 (F := F) i arg1 h1 arg2 h2 arg3 h3 arg4 h4 arg5 h5 arg6 h6 arg7 h7 arg8 h8 r s q acc acc'
      = cut2 arg1 arg2 arg3 arg6 arg7 arg8 r s q acc := by
  with_unfolding_all exact rfl

/-- Its third stretch is `cut3`, which ends inside tile 140 of the second loop. -/
theorem part216_eq (i : grid0.Coords) (arg1) (h1 : arg1.IsWhole) (arg2) (h2 : arg2.IsWhole) (arg3) (h3 : arg3.IsWhole)
    (arg4) (h4 : arg4.IsWhole) (arg5) (h5 : arg5.IsWhole) (arg6) (h6 : arg6.IsWhole) (arg7) (h7 : arg7.IsWhole)
    (arg8) (h8 : arg8.IsWhole) (r b : FVec F K.S32x1 .f32) (m : FVec F K.S8x128 .f32) (u : FVec F K.S32x128 .f32) (x : FVec F K.S32x128 .bf16) :
    k0_part216 (F := F) i arg1 h1 arg2 h2 arg3 h3 arg4 h4 arg5 h5 arg6 h6 arg7 h7 arg8 h8 r b m u x
      = cut3 arg1 arg2 arg3 r b m u x := by
  with_unfolding_all exact rfl

/-- The printed first body is `reduceBody`, the loops over the tiles. -/
theorem reduce_eq (i : grid0.Coords) (arg1) (h1 : arg1.IsWhole) (arg2) (h2 : arg2.IsWhole) (arg3) (h3 : arg3.IsWhole)
    (arg4) (h4 : arg4.IsWhole) (arg5) (h5 : arg5.IsWhole) (arg6) (h6 : arg6.IsWhole) (arg7) (h7 : arg7.IsWhole)
    (arg8) (h8 : arg8.IsWhole) :
    cc0_reduce (F := F) i arg1 h1 arg2 h2 arg3 h3 arg4 h4 arg5 h5 arg6 h6 arg7 h7 arg8 h8
      = reduceBody (nD := nD) (τ := τ) (Λ := Λ₀) (isFirst i) (k0_cond2 i) arg1 arg2 arg3 arg4 arg5 arg6 arg7 arg8 := by
  rw [← cutBody_eq _ _ (BitVec.ofNat 32 (i 0).val)]
  unfold cc0_reduce cutBody
  refine Eq.trans ?_ (congrArg (· >>= _) (part214_eq i arg1 h1 arg2 h2 arg3 h3 arg4 h4 arg5 h5 arg6 h6 arg7 h7 arg8 h8))
  refine bind_congr fun p => ?_
  refine Eq.trans ?_ (congrArg (· >>= _) (part215_eq i arg1 h1 arg2 h2 arg3 h3 arg4 h4 arg5 h5 arg6 h6 arg7 h7 arg8 h8 p.2.1 p.2.2.1 p.2.2.2.1 p.2.2.2.2.1 p.2.2.2.2.2))
  refine bind_congr fun q => ?_
  refine Eq.trans ?_ (congrArg (· >>= _) (part216_eq i arg1 h1 arg2 h2 arg3 h3 arg4 h4 arg5 h5 arg6 h6 arg7 h7 arg8 h8 p.2.1 q.1 q.2.1 q.2.2.1 q.2.2.2))
  refine bind_congr fun m => ?_
  with_unfolding_all exact rfl

end K.Ideal
-- ==== Proof.K.RegKernelIdeal.lean ====
module

public import proofs.«01_k».proof.Proof.Gen.KernelIdeal.Regions
public import proofs.«01_k».proof.Proof.Gen.KernelIdeal.Points
public import proofs.«01_k».proof.Proof.K.EqKernelIdeal
public import proofs.«01_k».proof.Proof.K.Wp
public import Idealize.ShloMosaic.Lib.Pipeline.FrameBody
public import Idealize.ShloMosaic.Lib.Pipeline.RegionsLoop
public import Idealize.ShloMosaic.Lib.Tactic

/-!
The two pallas_calls of the program as regions: what each window's buffer holds at each point, that the bodies leave
it so, and the regions entered from and left at a valuation of the unscoped buffers.
-/

@[expose] public section

noncomputable section

namespace K.Ideal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Contents of every reference on every core. -/
abbrev Vals (F : FTy → Type) : Type := (c : Dev nD) → (b : Ref sig .tc) → Buf (Elt F) ((c : Thread nD τ).loc b)

variable (V : Vals F)

/-! ## The first pallas_call: what the buffers hold -/

/-- Window `w`'s block at a point of the first call. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of x, -/
def bx0 (c : Dev nD) (t : Fin cfg0.N) : FVec F K.S32x27648 .bf16 := blk0 V c 0 t
/-- of dy, -/
def bdy0 (c : Dev nD) (t : Fin cfg0.N) : FVec F K.S32x27648 .bf16 := blk0 V c 1 t
/-- of gamma, -/
def bg0 (c : Dev nD) (t : Fin cfg0.N) : FVec F K.S1x27648 .f32 := blk0 V c 2 t
/-- and of rstd. -/
def br0 (c : Dev nD) (t : Fin cfg0.N) : FVec F K.S32x1 .f32 := blk0 V c 3 t

/-- dgamma's partial rows after the first `n` blocks. -/
def accAt (c : Dev nD) : ℕ → FVec F K.S8x27648 .f32
  | 0 => broadcast K.S8x27648 (Scalar.ofBits .f32 0x00000000#32)
  | n + 1 => if h : n < cfg0.N then accOut (br0 V c ⟨n, h⟩) (bx0 V c ⟨n, h⟩) (bdy0 V c ⟨n, h⟩) (accAt c n) else accAt c n

/-- The partial maxima of |dx| after the first `n` blocks. -/
def amAt (c : Dev nD) : ℕ → FVec F K.S8x128 .f32
  | 0 => broadcast K.S8x128 (Scalar.ofBits .f32 0x00000000#32)
  | n + 1 => if h : n < cfg0.N then amOut (br0 V c ⟨n, h⟩) (bx0 V c ⟨n, h⟩) (bdy0 V c ⟨n, h⟩) (bg0 V c ⟨n, h⟩) (amAt c n) else amAt c n

/-- A block adds its rows' terms to dgamma's partial rows. -/
theorem accAt_succ (c : Dev nD) (t : Fin cfg0.N) :
    accAt V c (t.val + 1) = accOut (br0 V c t) (bx0 V c t) (bdy0 V c t) (accAt V c t.val) := by
  conv_lhs => unfold accAt
  rw [dif_pos t.isLt]

/-- A block raises the partial maxima by its own |dx|. -/
theorem amAt_succ (c : Dev nD) (t : Fin cfg0.N) :
    amAt V c (t.val + 1) = amOut (br0 V c t) (bx0 V c t) (bdy0 V c t) (bg0 V c t) (amAt V c t.val) := by
  conv_lhs => unfold amAt
  rw [dif_pos t.isLt]

/-- The first block is block 0, and only it. -/
theorem isFirst_iff : ∀ t : Fin cfg0.N, isFirst (grid0.coords t) = 1#1 ↔ t.val = 0 :=
  (by decide : ∀ t : Fin grid0.N, isFirst (grid0.coords t) = 1#1 ↔ t.val = 0)

/-- The last block is block 127, and only it. -/
theorem isLast_iff : ∀ t : Fin cfg0.N, k0_cond2 (grid0.coords t) = 1#1 ↔ t.val = 127 :=
  (by decide : ∀ t : Fin grid0.N, k0_cond2 (grid0.coords t) = 1#1 ↔ t.val = 127)

/-- The scoped buffers the first call does not touch. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg5_0), ((c : Thread nD τ).loc cc1_stg5_0) ↦{fullShare} f))

/-- The scratch, holding dgamma's partial rows after `n` blocks (anything before the first). -/
def scr (c : Dev nD) (n : ℕ) : sProp 𝕄 :=
  iprop(∃ f : FVec F K.S8x27648 .f32, ⌜n ≠ 0 → f = accAt V c n⌝ ∗ owns (c : Thread nD τ) (Memref.whole cc0_scratch0) fullShare f)

/-- What the first call keeps between points. -/
def phi0 (c : Dev nD) (n : ℕ) : sProp 𝕄 := iprop(scr V c n ∗ others0 c)

/-- The first call's proof data, entered at the contents `V`. -/
def dat0 (c : Dev nD) : Dat τ (Elt F) Unit ℕ (UR sig nD τ) ℕ cfg0 c where
  A w := V c (Pipeline.arrRef spec0 w)
  after w t := match w with
    | ⟨0, _⟩ => bx0 V c t
    | ⟨1, _⟩ => bdy0 V c t
    | ⟨2, _⟩ => bg0 V c t
    | ⟨3, _⟩ => br0 V c t
    | ⟨4, _⟩ => dgammaOf (accAt V c (t.val + 1))
    | ⟨5, _⟩ => cOut (br0 V c t) (bx0 V c t) (bdy0 V c t) (bg0 V c t)
    | ⟨6, _⟩ => amAt V c (t.val + 1)
  Φ t := phi0 V c t.val
  q _ := fullShare
  owed _ := 0

/-- The first call's arrays start as at entry. -/
theorem A0_eq (c : Dev nD) (w : Fin cfg0.W) : (dat0 V c).A w = V c (Pipeline.arrRef spec0 w) := by dsimp only [dat0]

/-- After a point of the first call, window 0's buffer holds the block of x. -/
theorem after0_0 (c : Dev nD) (t : Fin cfg0.N) : (dat0 V c).after 0 t = bx0 V c t := by dsimp only [dat0]
/-- After a point of the first call, window 1's buffer holds the block of dy. -/
theorem after0_1 (c : Dev nD) (t : Fin cfg0.N) : (dat0 V c).after 1 t = bdy0 V c t := by dsimp only [dat0]
/-- After a point of the first call, window 2's buffer holds gamma. -/
theorem after0_2 (c : Dev nD) (t : Fin cfg0.N) : (dat0 V c).after 2 t = bg0 V c t := by dsimp only [dat0]
/-- After a point of the first call, window 3's buffer holds the block of rstd. -/
theorem after0_3 (c : Dev nD) (t : Fin cfg0.N) : (dat0 V c).after 3 t = br0 V c t := by dsimp only [dat0]
/-- After a point of the first call, window 4's buffer holds dgamma from the partial rows so far. -/
theorem after0_4 (c : Dev nD) (t : Fin cfg0.N) : (dat0 V c).after 4 t = dgammaOf (accAt V c (t.val + 1)) := by dsimp only [dat0]
/-- After a point of the first call, window 5's buffer holds the means of the block's rows. -/
theorem after0_5 (c : Dev nD) (t : Fin cfg0.N) :
    (dat0 V c).after 5 t = cOut (br0 V c t) (bx0 V c t) (bdy0 V c t) (bg0 V c t) := by dsimp only [dat0]
/-- After a point of the first call, window 6's buffer holds the partial maxima so far. -/
theorem after0_6 (c : Dev nD) (t : Fin cfg0.N) : (dat0 V c).after 6 t = amAt V c (t.val + 1) := by dsimp only [dat0]

/-- Before a point of the first call, window 0's buffer holds the block of x. -/
theorem before0_0 (c : Dev nD) (t : Fin cfg0.N) (d) : (dat0 V c).before 0 t d = bx0 V c t :=
  ((dat0 V c).before_in_eq_fetched 0 rfl (fun _ => rfl) (fun _ _ _ => rfl)
    (fun t => by rw [after0_0]; unfold Dat.blockOf bx0 blk0; rw [A0_eq]; try rfl) t d).trans
    (by unfold Dat.fetched Dat.blockOf bx0 blk0; rw [A0_eq]; try rfl)
/-- Before a point of the first call, window 1's buffer holds the block of dy. -/
theorem before0_1 (c : Dev nD) (t : Fin cfg0.N) (d) : (dat0 V c).before 1 t d = bdy0 V c t :=
  ((dat0 V c).before_in_eq_fetched 1 rfl (fun _ => rfl) (fun _ _ _ => rfl)
    (fun t => by rw [after0_1]; unfold Dat.blockOf bdy0 blk0; rw [A0_eq]; try rfl) t d).trans
    (by unfold Dat.fetched Dat.blockOf bdy0 blk0; rw [A0_eq]; try rfl)
/-- Before a point of the first call, window 2's buffer holds gamma. -/
theorem before0_2 (c : Dev nD) (t : Fin cfg0.N) (d) : (dat0 V c).before 2 t d = bg0 V c t :=
  ((dat0 V c).before_in_eq_fetched 2 rfl (fun _ => rfl) (fun _ _ _ => rfl)
    (fun t => by rw [after0_2]; unfold Dat.blockOf bg0 blk0; rw [A0_eq]; try rfl) t d).trans
    (by unfold Dat.fetched Dat.blockOf bg0 blk0; rw [A0_eq]; try rfl)
/-- Before a point of the first call, window 3's buffer holds the block of rstd. -/
theorem before0_3 (c : Dev nD) (t : Fin cfg0.N) (d) : (dat0 V c).before 3 t d = br0 V c t :=
  ((dat0 V c).before_in_eq_fetched 3 rfl (fun _ => rfl) (fun _ _ _ => rfl)
    (fun t => by rw [after0_3]; unfold Dat.blockOf br0 blk0; rw [A0_eq]; try rfl) t d).trans
    (by unfold Dat.fetched Dat.blockOf br0 blk0; rw [A0_eq]; try rfl)

/-- The maxima's buffer holds, after the first block, what the block before left. -/
theorem before0_6 (c : Dev nD) (t : Fin cfg0.N) (ht : t.val ≠ 0) (d) : (dat0 V c).before 6 t d = amAt V c t.val := by
  have hN : t.val < 128 := N_0 ▸ t.isLt
  have hf : (cfg0.win 6).flush ⟨t.val - 1, Nat.lt_of_le_of_lt (Nat.sub_le _ _) t.isLt⟩ = false := by
    rw [Bool.eq_false_iff, Ne, flush0_6]
    show ¬ (t.val - 1) % 128 = 127
    omega
  rw [(dat0 V c).before_out_kept 6 rfl t ht hf (fun _ => rfl) (fun _ _ => rfl) d, after0_6]
  congr 1
  show t.val - 1 + 1 = t.val
  omega

/-- The partial rows a block starts from are those the blocks before left. -/
theorem acc0_eq (c : Dev nD) (t : Fin cfg0.N) (f : FVec F K.S8x27648 .f32) (h : t.val ≠ 0 → f = accAt V c t.val) :
    acc0 (isFirst (grid0.coords t)) f = accAt V c t.val := by
  unfold acc0
  by_cases ht : t.val = 0
  · rw [if_pos ((isFirst_iff t).mpr ht), ht]; rfl
  · rw [if_neg (fun h' => ht ((isFirst_iff t).mp h')), h ht]

/-- The maxima a block starts from are those the blocks before left. -/
theorem max0_eq (c : Dev nD) (t : Fin cfg0.N) (d) :
    max0 (isFirst (grid0.coords t)) ((dat0 V c).before 6 t d) = amAt V c t.val := by
  unfold max0
  by_cases ht : t.val = 0
  · rw [if_pos ((isFirst_iff t).mpr ht), ht]; rfl
  · rw [if_neg (fun h' => ht ((isFirst_iff t).mp h')), before0_6 V c t ht]

/-! ## The first body's obligation -/

/-- The body run at a point of the first call is the printed first body. -/
theorem defs₀_row0 (t : Fin cfg0.N) : defs₀ (F := F) .tc cfg0.body (cfg0.bodyArgs t (cfg0.slots t)) = bodyAt0 t := by
  unfold defs₀; rw [Defs.onTc_tc]

/-- dgamma's buffer after a point: dgamma at the last point, untouched before it. -/
theorem leaves0_4 (c : Dev nD) (t : Fin cfg0.N) (d) :
    owns (c : Thread nD τ) (st0_4 t) fullShare (dgOut (k0_cond2 (grid0.coords t)) (accAt V c (t.val + 1)) ((dat0 V c).before 4 t d))
      ⊢ (dat0 V c).leavesExact 4 t := by
  have hN : t.val < 128 := N_0 ▸ t.isLt
  unfold Dat.leavesExact
  by_cases ht : t.val = 127
  · have h : k0_cond2 (grid0.coords t) = 1#1 := (isLast_iff t).mpr ht
    rw [show cfg0.idle 4 (cfg0.grid.coords t) = false from by show (!(k0_cond2 (grid0.coords t) == 1#1)) = false; rw [h]; rfl]
    dsimp only
    rw [after0_4]
    unfold dgOut
    rw [if_pos h]
  · have h : ¬ k0_cond2 (grid0.coords t) = 1#1 := fun h => ht ((isLast_iff t).mp h)
    have hf : (cfg0.win 4).flush t = false := by
      rw [Bool.eq_false_iff, Ne, flush0_4]; omega
    rw [show cfg0.idle 4 (cfg0.grid.coords t) = true from by
      show (!(k0_cond2 (grid0.coords t) == 1#1)) = true
      rw [Bool.not_eq_true', beq_eq_false_iff_ne]; exact h]
    rw [hf]
    dsimp only
    unfold dgOut
    rw [if_neg h]
    iintro H
    iexists d
    iexact H

set_option maxHeartbeats 1000000 in
/-- The first body leaves every buffer as the proof data says. -/
theorem body0 (c : Dev nD) : BodyObligation (dat0 V c) (defs₀ (F := F)) Variants.none () Set.univ := fun t => by
  rw [bigSep_W0, bigSep_W0, defs₀_row0]
  unfold bodyAt0
  rw [reduce_eq]
  rw [show (dat0 V c).Φ t.castSucc = phi0 V c t.val from rfl, show (dat0 V c).Φ t.succ = phi0 V c (t.val + 1) from rfl,
    show (dat0 V c).owesAt () t.succ = (dat0 V c).owesAt () t.castSucc from rfl]
  unfold phi0 scr
  simp only [before0_0, before0_1, before0_2, before0_3]
  iintro ⟨⟨⟨%f, %hf, Hs⟩, Hr⟩, Ho, ⟨%d0, H0⟩, ⟨%d1, H1⟩, ⟨%d2, H2⟩, ⟨%d3, H3⟩, ⟨%d4, H4⟩, ⟨%d5, H5⟩, ⟨%d6, H6⟩⟩
  iapply (reduce_wp (defs := defs₀ (F := F)) Variants.none c none Set.univ (isFirst (grid0.coords t)) (k0_cond2 (grid0.coords t)) _ _ _ _ _ _ _ _
    (bx0 V c t) (bdy0 V c t) (bg0 V c t) (br0 V c t) ((dat0 V c).before 4 t d4) ((dat0 V c).before 5 t d5) ((dat0 V c).before 6 t d6) f _)
  rw [acc0_eq V c t f hf, max0_eq V c t d6, ← accAt_succ, ← amAt_succ]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hs]; · iexact Hs
  iintro ⟨H0, H1, H2, H3, H4, H5, H6, Hs⟩
  isplitl [Hs Hr]
  · isplitl [Hs]
    · iexists (accAt V c (t.val + 1))
      isplitr; · ipureintro; exact fun _ => rfl
      iexact Hs
    iexact Hr
  isplitl [Ho]; · iexact Ho
  isplitl [H0]; · iexact H0
  isplitl [H1]; · iexact H1
  isplitl [H2]; · iexact H2
  isplitl [H3]; · iexact H3
  isplitl [H4]
  · ihave H := (leaves0_4 V c t d4) $$ H4
    iexact H
  isplitl [H5]; · iexact H5
  iexact H6

/-! ## The second pallas_call -/

/-- Window `w`'s block at a point of the second call. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of x, -/
def bx1 (c : Dev nD) (t : Fin cfg1.N) : FVec F K.S32x27648 .bf16 := blk1 V c 0 t
/-- of dy, -/
def bdy1 (c : Dev nD) (t : Fin cfg1.N) : FVec F K.S32x27648 .bf16 := blk1 V c 1 t
/-- of gamma, -/
def bg1 (c : Dev nD) (t : Fin cfg1.N) : FVec F K.S1x27648 .f32 := blk1 V c 2 t
/-- of rstd, -/
def br1 (c : Dev nD) (t : Fin cfg1.N) : FVec F K.S32x1 .f32 := blk1 V c 3 t
/-- of the means, -/
def bc1 (c : Dev nD) (t : Fin cfg1.N) : FVec F K.S32x1 .f32 := blk1 V c 4 t
/-- and the inverse scale. -/
def bi1 (c : Dev nD) (t : Fin cfg1.N) : FVec F K.S1x1 .f32 := blk1 V c 5 t

/-- The second call's proof data, entered at the contents `V`. -/
def dat1 (c : Dev nD) : Dat τ (Elt F) Unit ℕ (UR sig nD τ) ℕ cfg1 c where
  A w := V c (Pipeline.arrRef spec1 w)
  after w t := match w with
    | ⟨0, _⟩ => bx1 V c t
    | ⟨1, _⟩ => bdy1 V c t
    | ⟨2, _⟩ => bg1 V c t
    | ⟨3, _⟩ => br1 V c t
    | ⟨4, _⟩ => bc1 V c t
    | ⟨5, _⟩ => bi1 V c t
    | ⟨6, _⟩ => codesOut (br1 V c t) (bc1 V c t) (bi1 V c t (Shape.Idx.first (by decide))) (bx1 V c t) (bdy1 V c t) (bg1 V c t)
  Φ _ := Pipeline.scopedRest (Ix := Unit) (Name := ℕ) (U := UR sig nD τ) (Lvl := ℕ) (Val := Elt F) spec1 c
  q _ := fullShare
  owed _ := 0

/-- The second call's arrays start as at entry. -/
theorem A1_eq (c : Dev nD) (w : Fin cfg1.W) : (dat1 V c).A w = V c (Pipeline.arrRef spec1 w) := by dsimp only [dat1]

/-- After a point of the second call, window 0's buffer holds the block of x. -/
theorem after1_0 (c : Dev nD) (t : Fin cfg1.N) : (dat1 V c).after 0 t = bx1 V c t := by dsimp only [dat1]
/-- After a point of the second call, window 1's buffer holds the block of dy. -/
theorem after1_1 (c : Dev nD) (t : Fin cfg1.N) : (dat1 V c).after 1 t = bdy1 V c t := by dsimp only [dat1]
/-- After a point of the second call, window 2's buffer holds gamma. -/
theorem after1_2 (c : Dev nD) (t : Fin cfg1.N) : (dat1 V c).after 2 t = bg1 V c t := by dsimp only [dat1]
/-- After a point of the second call, window 3's buffer holds the block of rstd. -/
theorem after1_3 (c : Dev nD) (t : Fin cfg1.N) : (dat1 V c).after 3 t = br1 V c t := by dsimp only [dat1]
/-- After a point of the second call, window 4's buffer holds the block of means. -/
theorem after1_4 (c : Dev nD) (t : Fin cfg1.N) : (dat1 V c).after 4 t = bc1 V c t := by dsimp only [dat1]
/-- After a point of the second call, window 5's buffer holds the inverse scale. -/
theorem after1_5 (c : Dev nD) (t : Fin cfg1.N) : (dat1 V c).after 5 t = bi1 V c t := by dsimp only [dat1]
/-- After a point of the second call, window 6's buffer holds the block's codes. -/
theorem after1_6 (c : Dev nD) (t : Fin cfg1.N) : (dat1 V c).after 6 t
    = codesOut (br1 V c t) (bc1 V c t) (bi1 V c t (Shape.Idx.first (by decide))) (bx1 V c t) (bdy1 V c t) (bg1 V c t) := by
  dsimp only [dat1]

/-- Before a point of the second call, window 0's buffer holds the block of x. -/
theorem before1_0 (c : Dev nD) (t : Fin cfg1.N) (d) : (dat1 V c).before 0 t d = bx1 V c t :=
  ((dat1 V c).before_in_eq_fetched 0 rfl (fun _ => rfl) (fun _ _ _ => rfl)
    (fun t => by rw [after1_0]; unfold Dat.blockOf bx1 blk1; rw [A1_eq]; try rfl) t d).trans
    (by unfold Dat.fetched Dat.blockOf bx1 blk1; rw [A1_eq]; try rfl)
/-- Before a point of the second call, window 1's buffer holds the block of dy. -/
theorem before1_1 (c : Dev nD) (t : Fin cfg1.N) (d) : (dat1 V c).before 1 t d = bdy1 V c t :=
  ((dat1 V c).before_in_eq_fetched 1 rfl (fun _ => rfl) (fun _ _ _ => rfl)
    (fun t => by rw [after1_1]; unfold Dat.blockOf bdy1 blk1; rw [A1_eq]; try rfl) t d).trans
    (by unfold Dat.fetched Dat.blockOf bdy1 blk1; rw [A1_eq]; try rfl)
/-- Before a point of the second call, window 2's buffer holds gamma. -/
theorem before1_2 (c : Dev nD) (t : Fin cfg1.N) (d) : (dat1 V c).before 2 t d = bg1 V c t :=
  ((dat1 V c).before_in_eq_fetched 2 rfl (fun _ => rfl) (fun _ _ _ => rfl)
    (fun t => by rw [after1_2]; unfold Dat.blockOf bg1 blk1; rw [A1_eq]; try rfl) t d).trans
    (by unfold Dat.fetched Dat.blockOf bg1 blk1; rw [A1_eq]; try rfl)
/-- Before a point of the second call, window 3's buffer holds the block of rstd. -/
theorem before1_3 (c : Dev nD) (t : Fin cfg1.N) (d) : (dat1 V c).before 3 t d = br1 V c t :=
  ((dat1 V c).before_in_eq_fetched 3 rfl (fun _ => rfl) (fun _ _ _ => rfl)
    (fun t => by rw [after1_3]; unfold Dat.blockOf br1 blk1; rw [A1_eq]; try rfl) t d).trans
    (by unfold Dat.fetched Dat.blockOf br1 blk1; rw [A1_eq]; try rfl)
/-- Before a point of the second call, window 4's buffer holds the block of means. -/
theorem before1_4 (c : Dev nD) (t : Fin cfg1.N) (d) : (dat1 V c).before 4 t d = bc1 V c t :=
  ((dat1 V c).before_in_eq_fetched 4 rfl (fun _ => rfl) (fun _ _ _ => rfl)
    (fun t => by rw [after1_4]; unfold Dat.blockOf bc1 blk1; rw [A1_eq]; try rfl) t d).trans
    (by unfold Dat.fetched Dat.blockOf bc1 blk1; rw [A1_eq]; try rfl)
/-- Before a point of the second call, window 5's buffer holds the inverse scale. -/
theorem before1_5 (c : Dev nD) (t : Fin cfg1.N) (d) : (dat1 V c).before 5 t d = bi1 V c t :=
  ((dat1 V c).before_in_eq_fetched 5 rfl (fun _ => rfl) (fun _ _ _ => rfl)
    (fun t => by rw [after1_5]; unfold Dat.blockOf bi1 blk1; rw [A1_eq]; try rfl) t d).trans
    (by unfold Dat.fetched Dat.blockOf bi1 blk1; rw [A1_eq]; try rfl)

/-- The body run at a point of the second call is the printed second body. -/
theorem defs₀_row1 (t : Fin cfg1.N) : defs₀ (F := F) .tc cfg1.body (cfg1.bodyArgs t (cfg1.slots t)) = bodyAt1 t := by
  unfold defs₀; rw [Defs.onTc_tc]

set_option maxHeartbeats 1000000 in
/-- The second body leaves every buffer as the proof data says. -/
theorem body1 (c : Dev nD) : BodyObligation (dat1 V c) (defs₀ (F := F)) Variants.none () Set.univ := fun t => by
  rw [bigSep_W1, bigSep_W1, defs₀_row1]
  unfold bodyAt1
  rw [quant_eq]
  rw [show (dat1 V c).Φ t.succ = (dat1 V c).Φ t.castSucc from rfl,
    show (dat1 V c).owesAt () t.succ = (dat1 V c).owesAt () t.castSucc from rfl]
  simp only [before1_0, before1_1, before1_2, before1_3, before1_4, before1_5]
  iintro ⟨Hr, Ho, ⟨%d0, H0⟩, ⟨%d1, H1⟩, ⟨%d2, H2⟩, ⟨%d3, H3⟩, ⟨%d4, H4⟩, ⟨%d5, H5⟩, ⟨%d6, H6⟩⟩
  iapply (quant_wp (defs := defs₀ (F := F)) Variants.none c none Set.univ _ _ _ _ _ _ _ _
    (bx1 V c t) (bdy1 V c t) (bg1 V c t) (br1 V c t) (bc1 V c t) (bi1 V c t) ((dat1 V c).before 6 t d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [Hr]; · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## The inputs' arrays at the end are as at entry -/

/-- The first call leaves x as at entry. -/
theorem arr0_0 (c : Dev nD) : (dat0 V c).arrAt 0 cfg0.N = V c main_v0 := ((dat0 V c).arrAt_in 0 rfl _).trans (A0_eq V c 0)
/-- The first call leaves dy as at entry. -/
theorem arr0_1 (c : Dev nD) : (dat0 V c).arrAt 1 cfg0.N = V c main_v1 := ((dat0 V c).arrAt_in 1 rfl _).trans (A0_eq V c 1)
/-- The first call leaves gamma as at entry. -/
theorem arr0_2 (c : Dev nD) : (dat0 V c).arrAt 2 cfg0.N = V c main_v2 := ((dat0 V c).arrAt_in 2 rfl _).trans (A0_eq V c 2)
/-- The first call leaves rstd as at entry. -/
theorem arr0_3 (c : Dev nD) : (dat0 V c).arrAt 3 cfg0.N = V c main_v3 := ((dat0 V c).arrAt_in 3 rfl _).trans (A0_eq V c 3)
/-- The second call leaves x as at entry. -/
theorem arr1_0 (c : Dev nD) : (dat1 V c).arrAt 0 cfg1.N = V c main_v0 := ((dat1 V c).arrAt_in 0 rfl _).trans (A1_eq V c 0)
/-- The second call leaves dy as at entry. -/
theorem arr1_1 (c : Dev nD) : (dat1 V c).arrAt 1 cfg1.N = V c main_v1 := ((dat1 V c).arrAt_in 1 rfl _).trans (A1_eq V c 1)
/-- The second call leaves gamma as at entry. -/
theorem arr1_2 (c : Dev nD) : (dat1 V c).arrAt 2 cfg1.N = V c main_v2 := ((dat1 V c).arrAt_in 2 rfl _).trans (A1_eq V c 2)
/-- The second call leaves rstd as at entry. -/
theorem arr1_3 (c : Dev nD) : (dat1 V c).arrAt 3 cfg1.N = V c main_v3 := ((dat1 V c).arrAt_in 3 rfl _).trans (A1_eq V c 3)
/-- The second call leaves the means as at entry. -/
theorem arr1_4 (c : Dev nD) : (dat1 V c).arrAt 4 cfg1.N = V c main_v4_1 := ((dat1 V c).arrAt_in 4 rfl _).trans (A1_eq V c 4)
/-- The second call leaves the inverse scale as at entry. -/
theorem arr1_5 (c : Dev nD) : (dat1 V c).arrAt 5 cfg1.N = V c main_v36 := ((dat1 V c).arrAt_in 5 rfl _).trans (A1_eq V c 5)

end K.Ideal

end
-- ==== Proof.K.MathRegKernelIdeal.lean ====
module

public import proofs.«01_k».proof.Proof.K.MathSpec
public import proofs.«01_k».proof.Proof.K.RegKernelIdeal
public import Idealize.ShloMosaic.Lib.Pipeline.ValueKit

/-!
What the two pallas_calls leave in their arrays, over the extended reals.
-/

@[expose] public section

noncomputable section

namespace K.Ideal

open Cert.KernelIdeal Cert.KernelIdeal.Gen

open Idealize.ShloMosaic
open Idealize.ShloMosaic.TcCoe Idealize.ShloMosaic.Tactic
open Idealize.SL Idealize.SL.Sem
open Idealize.ShloMosaic.Pipeline (Dat Cfg Window BodyObligation cellOf)

variable (V : Vals Ideal)

/-! ## Where the blocks lie -/

/-- Window 0 of the first call is at block `t` at point `t`. -/
theorem ix0_0 : ∀ t : Fin cfg0.N, win0_0.index t = ![t.val, 0] := (by decide +kernel : ∀ t : Fin grid0.N, win0_0.index t = ![t.val, 0])
/-- Window 1 of the first call is at block `t` at point `t`. -/
theorem ix0_1 : ∀ t : Fin cfg0.N, win0_1.index t = ![t.val, 0] := (by decide +kernel : ∀ t : Fin grid0.N, win0_1.index t = ![t.val, 0])
/-- Window 2 of the first call reads the same block at every point. -/
theorem ix0_2 : ∀ t : Fin cfg0.N, win0_2.index t = ![0, 0] := (by decide +kernel : ∀ t : Fin grid0.N, win0_2.index t = ![0, 0])
/-- Window 3 of the first call is at block `t` at point `t`. -/
theorem ix0_3 : ∀ t : Fin cfg0.N, win0_3.index t = ![t.val, 0] := (by decide +kernel : ∀ t : Fin grid0.N, win0_3.index t = ![t.val, 0])
/-- Window 5 of the first call is at block `t` at point `t`. -/
theorem ix0_5 : ∀ t : Fin cfg0.N, win0_5.index t = ![t.val, 0] := (by decide +kernel : ∀ t : Fin grid0.N, win0_5.index t = ![t.val, 0])

/-- Window 0 of the second call is at block `t` at point `t`. -/
theorem ix1_0 : ∀ t : Fin cfg1.N, win1_0.index t = ![t.val, 0] := (by decide +kernel : ∀ t : Fin grid1.N, win1_0.index t = ![t.val, 0])
/-- Window 1 of the second call is at block `t` at point `t`. -/
theorem ix1_1 : ∀ t : Fin cfg1.N, win1_1.index t = ![t.val, 0] := (by decide +kernel : ∀ t : Fin grid1.N, win1_1.index t = ![t.val, 0])
/-- Window 2 of the second call reads the same block at every point. -/
theorem ix1_2 : ∀ t : Fin cfg1.N, win1_2.index t = ![0, 0] := (by decide +kernel : ∀ t : Fin grid1.N, win1_2.index t = ![0, 0])
/-- Window 3 of the second call is at block `t` at point `t`. -/
theorem ix1_3 : ∀ t : Fin cfg1.N, win1_3.index t = ![t.val, 0] := (by decide +kernel : ∀ t : Fin grid1.N, win1_3.index t = ![t.val, 0])
/-- Window 4 of the second call is at block `t` at point `t`. -/
theorem ix1_4 : ∀ t : Fin cfg1.N, win1_4.index t = ![t.val, 0] := (by decide +kernel : ∀ t : Fin grid1.N, win1_4.index t = ![t.val, 0])
/-- Window 5 of the second call reads the same block at every point. -/
theorem ix1_5 : ∀ t : Fin cfg1.N, win1_5.index t = ![0, 0] := (by decide +kernel : ∀ t : Fin grid1.N, win1_5.index t = ![0, 0])
/-- Window 6 of the second call is at block `t` at point `t`. -/
theorem ix1_6 : ∀ t : Fin cfg1.N, win1_6.index t = ![t.val, 0] := (by decide +kernel : ∀ t : Fin grid1.N, win1_6.index t = ![t.val, 0])

/-- A point of a call's grid, as a block number. -/
def bn0 (t : Fin cfg0.N) : Fin 128 := ⟨t.val, N_0 ▸ t.isLt⟩
/-- The same for the second call. -/
def bn1 (t : Fin cfg1.N) : Fin 128 := ⟨t.val, N_1 ▸ t.isLt⟩

/-- Row `i` of block `t` is row `32 * t + i`. -/
theorem off_row (t i : ℕ) : t * 32 + i = 32 * t + i := by omega
/-- A block at index zero starts at zero. -/
theorem off_zero (n l : ℕ) : 0 * n + l = l := by omega

/-! ## What the blocks hold -/

/-- The first call's block `t` of x is its rows from `32 * t` on. -/
theorem bx0_apply (c : Dev nD) (t : Fin cfg0.N) (i : Fin 32) (L : Fin 27648) :
    bx0 V c t (ix2 i L) = (V c main_v0 : FVec Ideal S4096x27648 .bf16) (ix2 (row (bn0 t) i) L) :=
  congrArg (V c main_v0) (funext fun a => Fin.ext (match a with
    | 0 => (Window.rect_emb_val win0_0 t _ 0).trans (by rw [ix0_0]; exact off_row _ _)
    | 1 => (Window.rect_emb_val win0_0 t _ 1).trans (by rw [ix0_0]; exact off_zero _ _)))

/-- The first call's block `t` of dy is its rows from `32 * t` on. -/
theorem bdy0_apply (c : Dev nD) (t : Fin cfg0.N) (i : Fin 32) (L : Fin 27648) :
    bdy0 V c t (ix2 i L) = (V c main_v1 : FVec Ideal S4096x27648 .bf16) (ix2 (row (bn0 t) i) L) :=
  congrArg (V c main_v1) (funext fun a => Fin.ext (match a with
    | 0 => (Window.rect_emb_val win0_1 t _ 0).trans (by rw [ix0_1]; exact off_row _ _)
    | 1 => (Window.rect_emb_val win0_1 t _ 1).trans (by rw [ix0_1]; exact off_zero _ _)))

/-- The first call's block of gamma is the whole of it. -/
theorem bg0_apply (c : Dev nD) (t : Fin cfg0.N) (L : Fin 27648) :
    bg0 V c t (ix2 0 L) = (V c main_v2 : FVec Ideal S1x27648 .f32) (ix2 0 L) :=
  congrArg (V c main_v2) (funext fun a => Fin.ext (match a with
    | 0 => (Window.rect_emb_val win0_2 t _ 0).trans (by rw [ix0_2]; exact off_zero _ _)
    | 1 => (Window.rect_emb_val win0_2 t _ 1).trans (by rw [ix0_2]; exact off_zero _ _)))

/-- The first call's block `t` of rstd is its rows from `32 * t` on. -/
theorem br0_apply (c : Dev nD) (t : Fin cfg0.N) (i : Fin 32)  :
    br0 V c t (ix2 i 0) = (V c main_v3 : FVec Ideal S4096x1 .f32) (ix2 (row (bn0 t) i) 0) :=
  congrArg (V c main_v3) (funext fun a => Fin.ext (match a with
    | 0 => (Window.rect_emb_val win0_3 t _ 0).trans (by rw [ix0_3]; exact off_row _ _)
    | 1 => (Window.rect_emb_val win0_3 t _ 1).trans (by rw [ix0_3]; exact off_zero _ _)))

/-- The second call's block `t` of x is its rows from `32 * t` on. -/
theorem bx1_apply (c : Dev nD) (t : Fin cfg1.N) (i : Fin 32) (L : Fin 27648) :
    bx1 V c t (ix2 i L) = (V c main_v0 : FVec Ideal S4096x27648 .bf16) (ix2 (row (bn1 t) i) L) :=
  congrArg (V c main_v0) (funext fun a => Fin.ext (match a with
    | 0 => (Window.rect_emb_val win1_0 t _ 0).trans (by rw [ix1_0]; exact off_row _ _)
    | 1 => (Window.rect_emb_val win1_0 t _ 1).trans (by rw [ix1_0]; exact off_zero _ _)))

/-- The second call's block `t` of dy is its rows from `32 * t` on. -/
theorem bdy1_apply (c : Dev nD) (t : Fin cfg1.N) (i : Fin 32) (L : Fin 27648) :
    bdy1 V c t (ix2 i L) = (V c main_v1 : FVec Ideal S4096x27648 .bf16) (ix2 (row (bn1 t) i) L) :=
  congrArg (V c main_v1) (funext fun a => Fin.ext (match a with
    | 0 => (Window.rect_emb_val win1_1 t _ 0).trans (by rw [ix1_1]; exact off_row _ _)
    | 1 => (Window.rect_emb_val win1_1 t _ 1).trans (by rw [ix1_1]; exact off_zero _ _)))

/-- The second call's block of gamma is the whole of it. -/
theorem bg1_apply (c : Dev nD) (t : Fin cfg1.N) (L : Fin 27648) :
    bg1 V c t (ix2 0 L) = (V c main_v2 : FVec Ideal S1x27648 .f32) (ix2 0 L) :=
  congrArg (V c main_v2) (funext fun a => Fin.ext (match a with
    | 0 => (Window.rect_emb_val win1_2 t _ 0).trans (by rw [ix1_2]; exact off_zero _ _)
    | 1 => (Window.rect_emb_val win1_2 t _ 1).trans (by rw [ix1_2]; exact off_zero _ _)))

/-- The second call's block `t` of rstd is its rows from `32 * t` on. -/
theorem br1_apply (c : Dev nD) (t : Fin cfg1.N) (i : Fin 32)  :
    br1 V c t (ix2 i 0) = (V c main_v3 : FVec Ideal S4096x1 .f32) (ix2 (row (bn1 t) i) 0) :=
  congrArg (V c main_v3) (funext fun a => Fin.ext (match a with
    | 0 => (Window.rect_emb_val win1_3 t _ 0).trans (by rw [ix1_3]; exact off_row _ _)
    | 1 => (Window.rect_emb_val win1_3 t _ 1).trans (by rw [ix1_3]; exact off_zero _ _)))

/-- The second call's block `t` of the means is its rows from `32 * t` on. -/
theorem bc1_apply (c : Dev nD) (t : Fin cfg1.N) (i : Fin 32)  :
    bc1 V c t (ix2 i 0) = (V c main_v4_1 : FVec Ideal S4096x1 .f32) (ix2 (row (bn1 t) i) 0) :=
  congrArg (V c main_v4_1) (funext fun a => Fin.ext (match a with
    | 0 => (Window.rect_emb_val win1_4 t _ 0).trans (by rw [ix1_4]; exact off_row _ _)
    | 1 => (Window.rect_emb_val win1_4 t _ 1).trans (by rw [ix1_4]; exact off_zero _ _)))

/-- The second call's block of the inverse scale is the whole of it. -/
theorem bi1_apply (c : Dev nD) (t : Fin cfg1.N)  :
    bi1 V c t (ix2 0 0) = (V c main_v36 : FVec Ideal S1x1 .f32) (ix2 0 0) :=
  congrArg (V c main_v36) (funext fun a => Fin.ext (match a with
    | 0 => (Window.rect_emb_val win1_5 t _ 0).trans (by rw [ix1_5]; exact off_zero _ _)
    | 1 => (Window.rect_emb_val win1_5 t _ 1).trans (by rw [ix1_5]; exact off_zero _ _)))

/-! ## The first call's arrays -/

/-- The rows of x, -/
def xF (c : Dev nD) (ρ : Fin 4096) (L : Fin 27648) : EReal := (V c main_v0 : FVec Ideal S4096x27648 .bf16) (ix2 ρ L)
/-- of dy, -/
def dyF (c : Dev nD) (ρ : Fin 4096) (L : Fin 27648) : EReal := (V c main_v1 : FVec Ideal S4096x27648 .bf16) (ix2 ρ L)
/-- gamma, -/
def gF (c : Dev nD) (L : Fin 27648) : EReal := (V c main_v2 : FVec Ideal S1x27648 .f32) (ix2 0 L)
/-- and rstd. -/
def rF (c : Dev nD) (ρ : Fin 4096) : EReal := (V c main_v3 : FVec Ideal S4096x1 .f32) (ix2 ρ 0)

/-- A block's means are its rows' means. -/
theorem cOut0 (c : Dev nD) (t : Fin cfg0.N) (i : Fin 32) :
    cOut (br0 V c t) (bx0 V c t) (bdy0 V c t) (bg0 V c t) (ix2 i 0) = spC (xF V c) (dyF V c) (gF V c) (rF V c) (row (bn0 t) i) := by
  rw [cOut_apply, spC_eq]
  simp only [bx0_apply, bdy0_apply, bg0_apply, br0_apply]
  rfl

/-- A block's dx is its rows' dx. -/
theorem dxB0 (c : Dev nD) (t : Fin cfg0.N) (i : Fin 32) (L : Fin 27648) :
    dxB (br0 V c t) (rrc (br0 V c t) (cOut (br0 V c t) (bx0 V c t) (bdy0 V c t) (bg0 V c t))) (bx0 V c t) (bdy0 V c t) (bg0 V c t) i L
      = spDx (xF V c) (dyF V c) (gF V c) (rF V c) (row (bn0 t) i) L := by
  unfold dxB
  rw [rrc_apply, cOut0, spDx_eq, bx0_apply, bdy0_apply, bg0_apply, br0_apply]
  rfl

/-- dgamma's partial rows after `n` blocks. -/
theorem accAt_apply (c : Dev nD) (k : Fin 8) (L : Fin 27648) : ∀ n (hn : n ≤ 128),
    accAt V c n (ix2 k L) = ∑ t : Fin n, ∑ a : Fin 4,
      (dyF V c (row ⟨t.val, by omega⟩ (sub8 a k)) L * rF V c (row ⟨t.val, by omega⟩ (sub8 a k))) * xF V c (row ⟨t.val, by omega⟩ (sub8 a k)) L := by
  intro n
  induction n with
  | zero =>
    intro _
    rw [Fin.sum_univ_zero]
    unfold accAt
    pointwise
  | succ n ih =>
    intro hn
    have h : n < cfg0.N := Nat.lt_of_lt_of_eq hn N_0.symm
    rw [Fin.sum_univ_castSucc, accAt_succ V c ⟨n, h⟩, accOut_apply, ih (by omega)]
    simp only [bx0_apply, bdy0_apply, br0_apply]
    rfl

/-- The last block. -/
def tLast : Fin cfg0.N := ⟨127, Nat.lt_of_lt_of_eq (by decide : 127 < 128) N_0.symm⟩

/-- After the first call dgamma's array holds dgamma. -/
theorem dg_array (c : Dev nD) (L : Fin 27648) :
    ((dat0 V c).arrAt 4 cfg0.N : FVec Ideal S1x27648 .f32) (ix2 0 L) = spDg (xF V c) (dyF V c) (rF V c) L := by
  have h : (dat0 V c).arrAt 4 cfg0.N = (dgammaOf (accAt V c 128) : FVec Ideal S1x27648 .f32) := by
    refine (dat0 V c).arrAt_eq_of_after_last 4 tLast (by decide +kernel) _ fun j => ?_
    rw [after0_4]
    rfl
  refine (congrFun h (ix2 0 L)).trans ((dgammaOf_apply _ L).trans ?_)
  rw [spDg_eq]
  exact Finset.sum_congr rfl fun k _ => accAt_apply V c k L 128 le_rfl

/-- After the first call the means' array holds the rows' means. -/
theorem c_array (c : Dev nD) (ρ : Fin 4096) :
    ((dat0 V c).arrAt 5 cfg0.N : FVec Ideal S4096x1 .f32) (ix2 ρ 0) = spC (xF V c) (dyF V c) (gF V c) (rF V c) ρ := by
  have h : (dat0 V c).arrAt 5 cfg0.N
      = ((fun i => spC (xF V c) (dyF V c) (gF V c) (rF V c) (i 0)) : FVec Ideal S4096x1 .f32) := by
    refine (dat0 V c).arrAt_eq_of_covers 5 _ (by decide +kernel) fun t hf y => ?_
    rw [after0_5]
    have he : row (bn0 t) (y 0) = ((cfg0.win 5).blk t).view.emb y 0 := Fin.ext
      ((Window.rect_emb_val win0_5 t y 0).trans (by rw [ix0_5]; exact off_row _ _)).symm
    have hy : (y : K.S32x1.Idx) = ix2 (y 0) 0 := by
      funext a
      match a with
      | 0 => rfl
      | 1 => exact Subsingleton.elim (α := Fin 1) _ _
    refine (congrArg (cOut (br0 V c t) (bx0 V c t) (bdy0 V c t) (bg0 V c t)) hy).trans ((cOut0 V c t (y 0)).trans ?_)
    exact congrArg _ he
  exact congrFun h (ix2 ρ 0)

/-- The partial maxima after `n` blocks, as the least bound of what they are maxima of. -/
theorem amAt_le (c : Dev nD) (k : Fin 8) (l : Fin 128) (u : EReal) : ∀ n (hn : n ≤ 128),
    amAt V c n (ix2 k l) ≤ u ↔ 0 ≤ u ∧ ∀ t : Fin 128, t.val < n → ∀ j : Fin 216, negInf ≤ u ∧ ∀ a : Fin 4,
      eabs (spDx (xF V c) (dyF V c) (gF V c) (rF V c) (row t (sub8 a k)) (lane j l)) ≤ u := by
  intro n
  induction n with
  | zero =>
    intro _
    have h0 : amAt V c 0 (ix2 k l) = 0 := by
      unfold amAt
      pointwise
    rw [h0]
    simp
  | succ n ih =>
    intro hn
    have h : n < cfg0.N := Nat.lt_of_lt_of_eq hn N_0.symm
    rw [amAt_succ V c ⟨n, h⟩]
    unfold amOut
    rw [maxOut_le, ih (by omega)]
    simp only [dxB0]
    constructor
    · rintro ⟨⟨h1, h2⟩, h3⟩
      refine ⟨h1, fun t ht => ?_⟩
      by_cases ht' : t.val < n
      · exact h2 t ht'
      · have : t = bn0 ⟨n, h⟩ := Fin.ext (by show t.val = n; omega)
        rw [this]; exact h3
    · rintro ⟨h1, h2⟩
      exact ⟨⟨h1, fun t ht => h2 t (by omega)⟩, h2 (bn0 ⟨n, h⟩) (by show n < n + 1; omega)⟩

/-- After the first call the maxima's array holds the partial maxima. -/
theorem am_array (c : Dev nD) : (dat0 V c).arrAt 6 cfg0.N = (amAt V c 128 : FVec Ideal S8x128 .f32) := by
  refine (dat0 V c).arrAt_eq_of_after_last 6 tLast (by decide +kernel) _ fun j => ?_
  rw [after0_6]
  rfl

/-! ## The second call's array -/

/-- A block's dx is its rows' dx, if the means the call reads are the rows' means. -/
theorem dxB1 (c : Dev nD)
    (hc : ∀ ρ, (V c main_v4_1 : FVec Ideal S4096x1 .f32) (ix2 ρ 0) = spC (xF V c) (dyF V c) (gF V c) (rF V c) ρ)
    (t : Fin cfg1.N) (i : Fin 32) (L : Fin 27648) :
    dxB (br1 V c t) (rrc (br1 V c t) (bc1 V c t)) (bx1 V c t) (bdy1 V c t) (bg1 V c t) i L
      = spDx (xF V c) (dyF V c) (gF V c) (rF V c) (row (bn1 t) i) L := by
  unfold dxB
  rw [rrc_apply, bc1_apply, hc, spDx_eq, bx1_apply, bdy1_apply, bg1_apply, br1_apply]
  rfl

/-- A block's codes are its rows' codes. -/
theorem codes1 (c : Dev nD)
    (hc : ∀ ρ, (V c main_v4_1 : FVec Ideal S4096x1 .f32) (ix2 ρ 0) = spC (xF V c) (dyF V c) (gF V c) (rF V c) ρ)
    (t : Fin cfg1.N) (z : K.S1x1.Idx) (i : Fin 32) (L : Fin 27648) :
    codesOut (br1 V c t) (bc1 V c t) (bi1 V c t z) (bx1 V c t) (bdy1 V c t) (bg1 V c t) (ix2 i L)
      = clip (spDx (xF V c) (dyF V c) (gF V c) (rF V c) (row (bn1 t) i) L * (V c main_v36 : FVec Ideal S1x1 .f32) (ix2 0 0)) := by
  have hz : z = ix2 0 0 := by
    funext a
    match a with
    | 0 => exact Subsingleton.elim (α := Fin 1) _ _
    | 1 => exact Subsingleton.elim (α := Fin 1) _ _
  rw [codesOut_apply, dxB1 V c hc, hz, bi1_apply]

/-- After the second call the codes' array holds the codes, if the means the call reads are the rows' means. -/
theorem codes_array (c : Dev nD)
    (hc : ∀ ρ, (V c main_v4_1 : FVec Ideal S4096x1 .f32) (ix2 ρ 0) = spC (xF V c) (dyF V c) (gF V c) (rF V c) ρ)
    (ρ : Fin 4096) (L : Fin 27648) :
    ((dat1 V c).arrAt 6 cfg1.N : FVec Ideal S4096x27648 .fp8e5m2) (ix2 ρ L)
      = clip (spDx (xF V c) (dyF V c) (gF V c) (rF V c) ρ L * (V c main_v36 : FVec Ideal S1x1 .f32) (ix2 0 0)) := by
  have h : (dat1 V c).arrAt 6 cfg1.N
      = ((fun i => clip (spDx (xF V c) (dyF V c) (gF V c) (rF V c) (i 0) (i 1) * (V c main_v36 : FVec Ideal S1x1 .f32) (ix2 0 0))) : FVec Ideal S4096x27648 .fp8e5m2) := by
    refine (dat1 V c).arrAt_eq_of_covers 6 _ (by decide +kernel) fun t hf y => ?_
    rw [after1_6]
    have he0 : row (bn1 t) (y 0) = ((cfg1.win 6).blk t).view.emb y 0 := Fin.ext
      ((Window.rect_emb_val win1_6 t y 0).trans (by rw [ix1_6]; exact off_row _ _)).symm
    have he1 : (y 1 : Fin 27648) = ((cfg1.win 6).blk t).view.emb y 1 := Fin.ext
      ((Window.rect_emb_val win1_6 t y 1).trans (by rw [ix1_6]; exact off_zero _ _)).symm
    have hy : (y : K.S32x27648.Idx) = ix2 (y 0) (y 1) := by
      funext a
      match a with
      | 0 => rfl
      | 1 => rfl
    refine (congrArg (codesOut (br1 V c t) (bc1 V c t) (bi1 V c t (Shape.Idx.first (by decide))) (bx1 V c t) (bdy1 V c t) (bg1 V c t)) hy).trans ?_
    refine (codes1 V c hc t _ (y 0) (y 1)).trans ?_
    exact congrArg₂ (fun a b => clip (spDx (xF V c) (dyF V c) (gF V c) (rF V c) a b * (V c main_v36 : FVec Ideal S1x1 .f32) (ix2 0 0))) he0 he1
  exact congrFun h (ix2 ρ L)

end K.Ideal
-- ==== Proof.K.MathScale.lean ====
module

public import proofs.«01_k».proof.Proof.K.MathSpec

/-!
The scale as both programs compute it on the host: the exponent of `a / 57344`, and powers of two from a table.
-/

@[expose] public section

noncomputable section

namespace K

open Idealize.ShloMosaic Idealize.SL.Sem

/-- The shape of a number without axes. -/
abbrev Sone : Shape := ⟨0, ![]⟩
/-- The shape of one number on one axis. -/
abbrev S1 : Shape := ⟨1, ![1]⟩
/-- The shape of the tables. -/
abbrev S1x278 : Shape := ⟨2, ![1, 278]⟩

/-- The host's quotient `a / 57344`. -/
def tOf (a : FVec Ideal S1x1 .f32) : FVec Ideal S1x1 .f32 :=
  mulf a (broadcastInDim S1x1 ![] (by decide) (constant (F := Ideal) Sone .f32 0x37924925#32))

/-- The exponent of `a / 57344`, counted off a table of the powers of two; 0 where `a` is 0 and where the quotient is
not a positive finite number. -/
def expOf (tab : FVec Ideal S1x278 .f32) (a : FVec Ideal S1x1 .f32) : IVec S1x1 32 :=
  select (cmpf .oeq a (broadcastInDim S1x1 ![] (by decide) (constant (F := Ideal) Sone .f32 0x00000000#32)))
    (broadcastInDim S1x1 ![] (by decide) (constantI Sone 32 0#32))
    (muli
      (subi
        (broadcastInDim S1x1 ![0] (by decide)
          (Host.reduce IntOp.addi
            (extui 32 (cmpf .oge (broadcastInDim S1x278 ![0, 1] (by decide) (tOf a)) tab) (by decide))
            (constantI Sone 32 0#32) (axes := [1]) (t := S1) (by decide) (by decide)))
        (broadcastInDim S1x1 ![] (by decide) (constantI Sone 32 149#32)))
      (extui 32
        (andi (cmpf .ogt (tOf a) (broadcastInDim S1x1 ![] (by decide) (constant (F := Ideal) Sone .f32 0x00000000#32)))
          (cmpf .olt (tOf a) (broadcastInDim S1x1 ![] (by decide) (constant (F := Ideal) Sone .f32 0x7F800000#32))))
        (by decide)))

/-- Two to the power `e`, from the table: the greatest power whose exponent is at most `e`. -/
def powOf (tab : FVec Ideal S1x278 .f32) (ctab : IVec S1x278 32) (e : IVec S1x1 32) : FVec Ideal S1x1 .f32 :=
  broadcastInDim S1x1 ![0] (by decide)
    (Host.reduce FloatOps.maximumf
      (select (cmpi .sge (broadcastInDim S1x278 ![0, 1] (by decide) e) ctab) tab
        (broadcastInDim S1x278 ![] (by decide) (constant (F := Ideal) Sone .f32 0x00000000#32)))
      (constant (F := Ideal) Sone .f32 0xFF800000#32) (axes := [1]) (t := S1) (by decide) (by decide))

/-- The exponents of the table, 0 in place of those whose interval, from `low` to `up`, has not the quotient. -/
def selOf (low up : FVec Ideal S1x278 .f32) (ctab : IVec S1x278 32) (a : FVec Ideal S1x1 .f32) : IVec S1x278 32 :=
  select
    (andi
      (andi
        (broadcastInDim S1x278 ![0, 1] (by decide)
          (cmpf .ogt (tOf a) (broadcastInDim S1x1 ![] (by decide) (constant (F := Ideal) Sone .f32 0x00000000#32))))
        (cmpf .oge (broadcastInDim S1x278 ![0, 1] (by decide) (tOf a)) low))
      (cmpf .olt (broadcastInDim S1x278 ![0, 1] (by decide) (tOf a)) up))
    ctab (broadcastInDim S1x278 ![] (by decide) (constantI Sone 32 0#32))

/-- The sum of such a row. -/
def totalOf (sel : IVec S1x278 32) : IVec S1x1 32 :=
  broadcastInDim S1x1 ![0] (by decide)
    (Host.reduce IntOp.addi sel (constantI Sone 32 0#32) (axes := [1]) (t := S1) (by decide) (by decide))

/-- Whether `a` is 0. -/
def isZero (a : FVec Ideal S1x1 .f32) : IVec S1x1 1 :=
  cmpf .oeq a (broadcastInDim S1x1 ![] (by decide) (constant (F := Ideal) Sone .f32 0x00000000#32))

/-- The exponent as the reference finds it: that of the one interval which has the quotient. -/
def expRef (low up : FVec Ideal S1x278 .f32) (ctab : IVec S1x278 32) (a : FVec Ideal S1x1 .f32) : IVec S1x1 32 :=
  select (isZero a) (broadcastInDim S1x1 ![] (by decide) (constantI Sone 32 0#32)) (totalOf (selOf low up ctab a))

/-- Two to the power `e` as the reference finds it: the entry whose exponent is `e`. -/
def powRef (up : FVec Ideal S1x278 .f32) (ctab : IVec S1x278 32) (e : IVec S1x1 32) : FVec Ideal S1x1 .f32 :=
  broadcastInDim S1x1 ![0] (by decide)
    (Host.reduceAdd
      (select (cmpi .eq (broadcastInDim S1x278 ![0, 1] (by decide) e) ctab) up
        (broadcastInDim S1x278 ![] (by decide) (constant (F := Ideal) Sone .f32 0x00000000#32)))
      (constant (F := Ideal) Sone .f32 0x00000000#32) (axes := [1]) (t := S1) (by decide) (by decide))

/-- The inverse's exponent, kept within the table. -/
def negOf (e : IVec S1x1 32) : IVec S1x1 32 := minsi (negi e) (broadcastInDim S1x1 ![] (by decide) (constantI Sone 32 128#32))

/-- The greatest of the partial maxima. -/
def aOf (am : FVec Ideal S8x128 .f32) : FVec Ideal S1x1 .f32 :=
  shapeCast S1x1 (Host.reduce FloatOps.maximumf am (constant (F := Ideal) Sone .f32 0xFF800000#32) (axes := [0, 1]) (t := Sone) (by decide) (by decide))
    (by decide)

/-- A bound of the greatest of the partial maxima is a bound of each. -/
theorem aOf_le (am : FVec Ideal S8x128 .f32) (u : EReal) :
    aOf am (ix2 0 0) ≤ u ↔ negInf ≤ u ∧ ∀ k l, am (ix2 k l) ≤ u := by
  unfold aOf negInf
  pointwise
  rw [Finset.fold_max_le]
  simp

end K
-- ==== Proof.K.RunKernelIdeal.lean ====
module

public import proofs.«01_k».proof.Proof.K.RegKernelIdeal

/-!
The whole program's run: every argument unchanged, every counter at zero, the three results as the host's last
operations leave them.
-/

@[expose] public section

noncomputable section

namespace K.Ideal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents at the regions' ends -/

/-- What the first call is entered at. -/
def vals0 : Vals F := fun c b => V1 m c b

/-- What the first call leaves: its three results. -/
def outs0 (c : Dev nD) : Valuation τ sig (Elt F) :=
  Function.update (Function.update (Function.update (V1 m c) main_v4_0 ((dat0 (vals0 m) c).arrAt 4 cfg0.N))
    main_v4_1 ((dat0 (vals0 m) c).arrAt 5 cfg0.N)) main_v4_2 ((dat0 (vals0 m) c).arrAt 6 cfg0.N)

/-- What the second call is entered at. -/
def vals1 : Vals F := fun c b => V9 m (fun _ r c => outs0 m c r) c b

/-- What the second call leaves: the codes. -/
def outs1 (c : Dev nD) : Valuation τ sig (Elt F) :=
  Function.update (V9 m (fun _ r c => outs0 m c r) c) main_v37 ((dat1 (vals1 m) c).arrAt 6 cfg1.N)

/-- What the two calls leave. -/
def outs : Outs (F := F) := fun k r c => if k = 2 then outs0 m c r else outs1 m c r

/-- What the host goes on with after the first call is what that call leaves. -/
theorem outs_2 (r : Ref sig .tc) (c : Dev nD) : outs m 2 r c = outs0 m c r := if_pos rfl
/-- What the host goes on with after the second call is what that call leaves. -/
theorem outs_10 (r : Ref sig .tc) (c : Dev nD) : outs m 10 r c = outs1 m c r := if_neg (by decide)

/-- The first call is entered at what the host operations before it leave. -/
theorem vals0_eq (c : Dev nD) (b : Ref sig .tc) : vals0 m c b = V1 m c b := rfl

/-- What the host computes between the calls depends only on what the first call leaves. -/
theorem V9_outs (c : Dev nD) : V9 m (outs m) c = V9 m (fun _ r c => outs0 m c r) c := by
  have h2 : V2 m (outs m) c = V2 m (fun _ r c => outs0 m c r) c := by simp only [V2, outs_2]
  have h3 : V3 m (outs m) c = V3 m (fun _ r c => outs0 m c r) c := congrArg (StableHlo.after hostOps1) h2
  have h4 : V4 m (outs m) c = V4 m (fun _ r c => outs0 m c r) c := congrArg (StableHlo.after hostOps1_1) h3
  have h5 : V5 m (outs m) c = V5 m (fun _ r c => outs0 m c r) c := congrArg (StableHlo.after hostOps1_2) h4
  have h6 : V6 m (outs m) c = V6 m (fun _ r c => outs0 m c r) c := congrArg (StableHlo.after hostOps1_3) h5
  have h7 : V7 m (outs m) c = V7 m (fun _ r c => outs0 m c r) c := congrArg (StableHlo.after hostOps1_4) h6
  have h8 : V8 m (outs m) c = V8 m (fun _ r c => outs0 m c r) c := congrArg (StableHlo.after hostOps1_5) h7
  exact congrArg (StableHlo.after hostOps1_6) h8

/-- The second call is entered at what the host operations before it leave. -/
theorem vals1_eq (c : Dev nD) (b : Ref sig .tc) : vals1 m c b = V9 m (outs m) c b := by rw [V9_outs]; rfl

/-- The first call leaves the maxima's array as its third result. -/
theorem V2_v4_2 (c : Dev nD) : V2 m (outs m) c main_v4_2 = (dat0 (vals0 m) c).arrAt 6 cfg0.N := by
  simp only [V2, outs_2, outs0]
  rw [Function.update_self, Function.update_self]

/-- The first call leaves the means' array as its second result. -/
theorem V2_v4_1 (c : Dev nD) : V2 m (outs m) c main_v4_1 = (dat0 (vals0 m) c).arrAt 5 cfg0.N := by
  simp only [V2, outs_2, outs0]
  rw [Function.update_of_ne (StableHlo.devRef_ne_of_ne (by decide)), Function.update_self,
    Function.update_of_ne (StableHlo.devRef_ne_of_ne (by decide)), Function.update_self]

/-- The first call leaves dgamma's array as its first result. -/
theorem V2_v4_0 (c : Dev nD) : V2 m (outs m) c main_v4_0 = (dat0 (vals0 m) c).arrAt 4 cfg0.N := by
  simp only [V2, outs_2, outs0]
  rw [Function.update_of_ne (StableHlo.devRef_ne_of_ne (by decide)), Function.update_of_ne (StableHlo.devRef_ne_of_ne (by decide)),
    Function.update_self, Function.update_of_ne (StableHlo.devRef_ne_of_ne (by decide)),
    Function.update_of_ne (StableHlo.devRef_ne_of_ne (by decide)), Function.update_self]

/-- The second call leaves the codes' array as its result. -/
theorem V10_v30 (c : Dev nD) : V10 m (outs m) c main_v37 = (dat1 (vals1 m) c).arrAt 6 cfg1.N := by
  simp only [V10, outs_10, outs1]
  rw [Function.update_self, Function.update_self]

/-- The buffers the host holds before the first call are those the call is entered at. -/
theorem held0_eq (c : Dev nD) :
    (StableHlo.held (c : Thread nD τ) (Pipeline.ucRefs τ sig) (V1 m c) : sProp 𝕄) = unscopedBufs c (vals0 m c) :=
  (Pipeline.unscopedBufs_held c _).symm

/-- The buffers the host holds before the second call are those the call is entered at. -/
theorem held1_eq (c : Dev nD) :
    (StableHlo.held (c : Thread nD τ) (Pipeline.ucRefs τ sig) (V9 m (outs m) c) : sProp 𝕄) = unscopedBufs c (vals1 m c) := by
  rw [V9_outs]
  exact (Pipeline.unscopedBufs_held c _).symm

/-- What the first call leaves every buffer at. -/
def vals2 : Vals F := fun c b => V2 m (outs m) c b
/-- What the second call leaves every buffer at. -/
def vals10 : Vals F := fun c b => V10 m (outs m) c b
/-- The contents after the first call, by name. -/
theorem vals2_eq (c : Dev nD) (b : Ref sig .tc) : vals2 m c b = V2 m (outs m) c b := rfl
/-- The contents after the second call, by name. -/
theorem vals10_eq (c : Dev nD) (b : Ref sig .tc) : vals10 m c b = V10 m (outs m) c b := rfl
/-- The buffers the host holds after the first call are those the call leaves. -/
theorem held2_eq (c : Dev nD) :
    (StableHlo.held (c : Thread nD τ) (Pipeline.ucRefs τ sig) (V2 m (outs m) c) : sProp 𝕄) = unscopedBufs c (vals2 m c) :=
  (Pipeline.unscopedBufs_held c _).symm
/-- The buffers the host holds after the second call are those the call leaves. -/
theorem held10_eq (c : Dev nD) :
    (StableHlo.held (c : Thread nD τ) (Pipeline.ucRefs τ sig) (V10 m (outs m) c) : sProp 𝕄) = unscopedBufs c (vals10 m c) :=
  (Pipeline.unscopedBufs_held c _).symm

/-- The first call's final arrays are the contents it leaves, -/
theorem fin0 (c : Dev nD) : ∀ w : Fin cfg0.W, (dat0 (vals0 m) c).arrAt w cfg0.N = vals2 m c (Pipeline.arrRef spec0 w)
  | 0 => (arr0_0 (vals0 m) c).trans ((vals0_eq m c main_v0).trans (V2_of m (outs m) c main_v0 (by decide)).symm)
  | 1 => (arr0_1 (vals0 m) c).trans ((vals0_eq m c main_v1).trans (V2_of m (outs m) c main_v1 (by decide)).symm)
  | 2 => (arr0_2 (vals0 m) c).trans ((vals0_eq m c main_v2).trans (V2_of m (outs m) c main_v2 (by decide)).symm)
  | 3 => (arr0_3 (vals0 m) c).trans ((vals0_eq m c main_v3).trans (V2_of m (outs m) c main_v3 (by decide)).symm)
  | 4 => (V2_v4_0 m c).symm
  | 5 => (V2_v4_1 m c).symm
  | 6 => (V2_v4_2 m c).symm

/-- which are the entry's off its arrays. -/
theorem off0 (c : Dev nD) (b : Ref sig .tc) (hb : b ∉ Finset.univ.image (Pipeline.arrRef spec0)) : vals2 m c b = vals0 m c b :=
  (V2_of m (outs m) c b (fun h => hb (by
    rcases List.mem_cons.mp h with rfl | h
    · exact Finset.mem_image.mpr ⟨4, Finset.mem_univ _, rfl⟩
    rcases List.mem_cons.mp h with rfl | h
    · exact Finset.mem_image.mpr ⟨5, Finset.mem_univ _, rfl⟩
    rcases List.mem_cons.mp h with rfl | h
    · exact Finset.mem_image.mpr ⟨6, Finset.mem_univ _, rfl⟩
    exact absurd h List.not_mem_nil))).trans (vals0_eq m c b).symm

/-- The second call's final arrays are the contents it leaves, -/
theorem fin1 (c : Dev nD) : ∀ w : Fin cfg1.W, (dat1 (vals1 m) c).arrAt w cfg1.N = vals10 m c (Pipeline.arrRef spec1 w)
  | 0 => (arr1_0 (vals1 m) c).trans ((vals1_eq m c main_v0).trans (V10_of m (outs m) c main_v0 (by decide)).symm)
  | 1 => (arr1_1 (vals1 m) c).trans ((vals1_eq m c main_v1).trans (V10_of m (outs m) c main_v1 (by decide)).symm)
  | 2 => (arr1_2 (vals1 m) c).trans ((vals1_eq m c main_v2).trans (V10_of m (outs m) c main_v2 (by decide)).symm)
  | 3 => (arr1_3 (vals1 m) c).trans ((vals1_eq m c main_v3).trans (V10_of m (outs m) c main_v3 (by decide)).symm)
  | 4 => (arr1_4 (vals1 m) c).trans ((vals1_eq m c main_v4_1).trans (V10_of m (outs m) c main_v4_1 (by decide)).symm)
  | 5 => (arr1_5 (vals1 m) c).trans ((vals1_eq m c main_v36).trans (V10_of m (outs m) c main_v36 (by decide)).symm)
  | 6 => (V10_v30 m c).symm

/-- which are the entry's off its arrays. -/
theorem off1 (c : Dev nD) (b : Ref sig .tc) (hb : b ∉ Finset.univ.image (Pipeline.arrRef spec1)) : vals10 m c b = vals1 m c b :=
  (V10_of m (outs m) c b (fun h => hb (by
    rcases List.mem_cons.mp h with rfl | h
    · exact Finset.mem_image.mpr ⟨6, Finset.mem_univ _, rfl⟩
    exact absurd h List.not_mem_nil))).trans (vals1_eq m c b).symm

attribute [local irreducible] vals0 vals1 vals2 vals10 outs outs0 outs1

/-! ## The regions -/

/-- Both calls' proof data. -/
def pdats : (p : Fin 2) → (c : Dev nD) → Dat τ (Elt F) Unit ℕ (UR sig nD τ) ℕ (cfgs p) c
  | ⟨0, _⟩ => fun c => dat0 (vals0 m) c
  | ⟨1, _⟩ => fun c => dat1 (vals1 m) c

/-- No core owes another anything. -/
abbrev L : GSem nD τ sig → Finset Unit := fun _ => ∅
/-- Every semaphore has level zero. -/
abbrev lv : GSem nD τ sig → Unit → ℕ := fun _ _ => 0

/-- The core owes nothing. -/
abbrev nothing (c : Dev nD) : sProp 𝕄 := iprop(∃ W, owes (c : Thread nD τ) (0 : CellTallies nD τ sig Unit) W)

/-- The scratch can be given back, whatever it holds. -/
theorem scr_out (V : Vals F) (c : Dev nD) (n : ℕ) :
    scr V c n ⊢ iprop(∃ f : Buf (Elt F) ((c : Thread nD τ).loc cc0_scratch0), ((c : Thread nD τ).loc cc0_scratch0) ↦{fullShare} f) := by
  unfold scr
  simp only [owns_whole_eq]
  iintro ⟨%f, -, %g, -, Hs⟩
  iexists g
  iexact Hs

/-- The buffers scoped to the first call's region are its scratch and those it does not touch. -/
theorem scoped0_eq (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ others0 c) :=
  scopedRest0_eq c

set_option backward.isDefEq.respectTransparency.types false in
/-- The first call as a region. -/
def reg0 : RegionSeg (pcfgs (F := F)) adm (pdats m) () defs₀ Variants.none L lv 0 where
  win := (launch0).win.to₀
  block_pos := (launch0).block_pos
  stage_whole := (launch0).stage_whole
  K := PEmpty
  osem k := k.elim
  ho := Pipeline.OwnSemFacts.none _
  hbody c := (body0 (vals0 m) c).loose
  hwaits := Pipeline.hwaits_of_owed_zero _ _ _ _ L lv 0 fun _ _ => rfl
  pre c := iprop(StableHlo.held (c : Thread nD τ) (Pipeline.ucRefs τ sig) (V1 m c) ∗ nothing c)
  post c := iprop(StableHlo.held (c : Thread nD τ) (Pipeline.ucRefs τ sig) (V2 m (outs m) c) ∗ nothing c)
  X _ := BI.emp
  Y _ := BI.emp
  Z c := Pipeline.unscopedRest (Ix := Unit) (Name := ℕ) (U := UR sig nD τ) (Lvl := ℕ) spec0 c (vals0 m c)
  hentry c := by
    rw [Pipeline.ownSems0_none,
      held0_eq m c]
    have hsplit := Pipeline.arrays_of_unscopedBufs (p := 0) (pcfgs (F := F)) adm (pdats m) (launch0).win (launch0).arr_whole c
      ((pdats m 0 c).share_full fun _ => rfl) (vals0 m c) (fun w => A0_eq (vals0 m) c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = phi0 (vals0 m) c 0 from rfl,
      show (Pipeline.scopedRest (Pipeline.pin (pcfgs (F := F)) adm 0).spec c : sProp 𝕄) = _ from scoped0_eq c]
    unfold phi0 scr
    iintro ⟨-, -, ⟨⟨%f, Hs⟩, Hr⟩⟩
    isplitl [Hs]
    · iexists f
      isplitr; · ipureintro; exact fun h => absurd rfl h
      rw [owns_whole_eq]
      iexists f
      isplitr; · ipureintro; rfl
      iexact Hs
    iexact Hr
  hout c := by
    rw [Pipeline.ownSems0_none, show (pdats m 0 c).Φ (Fin.last _) = phi0 (vals0 m) c cfg0.N from rfl,
      show (Pipeline.scopedRest (Pipeline.pin (pcfgs (F := F)) adm 0).spec c : sProp 𝕄) = _ from scoped0_eq c]
    unfold phi0
    iintro ⟨Hs, Hr⟩
    isplitr; · iempintro
    isplitr; · iempintro
    isplitl [Hs]
    · iapply (scr_out (vals0 m) c cfg0.N)
      iexact Hs
    iexact Hr
  hexit c := by
    rw [held2_eq m c]
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (vals0 m c) (vals2 m c) ((pdats m 0 c).arrAt · cfg0.N)
      (fin0 m c) (off0 m c)
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The second call as a region. -/
def reg1 : RegionSeg (pcfgs (F := F)) adm (pdats m) () defs₀ Variants.none L lv 1 where
  win := (launch1).win.to₀
  block_pos := (launch1).block_pos
  stage_whole := (launch1).stage_whole
  K := PEmpty
  osem k := k.elim
  ho := Pipeline.OwnSemFacts.none _
  hbody c := (body1 (vals1 m) c).loose
  hwaits := Pipeline.hwaits_of_owed_zero _ _ _ _ L lv 1 fun _ _ => rfl
  pre c := iprop(StableHlo.held (c : Thread nD τ) (Pipeline.ucRefs τ sig) (V9 m (outs m) c) ∗ nothing c)
  post c := iprop(StableHlo.held (c : Thread nD τ) (Pipeline.ucRefs τ sig) (V10 m (outs m) c) ∗ nothing c)
  X _ := BI.emp
  Y _ := BI.emp
  Z c := Pipeline.unscopedRest (Ix := Unit) (Name := ℕ) (U := UR sig nD τ) (Lvl := ℕ) spec1 c (vals1 m c)
  hentry c := by
    rw [Pipeline.ownSems0_none, held1_eq m c]
    have hsplit := Pipeline.arrays_of_unscopedBufs (p := 1) (pcfgs (F := F)) adm (pdats m) (launch1).win (launch1).arr_whole c
      ((pdats m 1 c).share_full fun _ => rfl) (vals1 m c) (fun w => A1_eq (vals1 m) c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdats m 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    rw [held10_eq m c]
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (vals1 m c) (vals10 m c) ((pdats m 1 c).arrAt · cfg1.N)
      (fin1 m c) (off1 m c)
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The run -/

/-- The launch element: the pipelines' cells and transfers. -/
abbrev u₀ : UR sig nD τ := initOf (Pipeline.cells cfgs cellOf_inj) (Pipeline.launchToks cfgs cellOf_inj)

variable (ρ : Dev nD → PrngReg)

set_option backward.isDefEq.respectTransparency.types false in
/-- Every fair execution of the program ends with its arguments unchanged, its results as the last host operations leave
    them, and every counter at zero. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v38) = V11 m (outs m) c main_v38
      ∧ r.2.mem ((c.tc : Thread nD τ).loc main_v39) = V11 m (outs m) c main_v39
      ∧ r.2.mem ((c.tc : Thread nD τ).loc main_v40) = V11 m (outs m) c main_v40)
      ∧ r.2.sem = fun _ => 0) := by
  refine Pipeline.θ_run_regions_kit_dev_sems (pcfgs (F := F)) adm (pdats m) () cellOf_inj emb₁ defs₀ Variants.none L lv m ρ main
    (segs m (outs m) Variants.none L lv (fun _ c => nothing c) () (pdats m) (reg0 m) (reg1 m))
    (fun c Q => by
      rewrite [main_chain c, Seg.run_eq_chain,
        show (segs m (outs m) Variants.none L lv (fun _ c => nothing c) () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := 0) (hL := fun _ _ => rfl)
    (G := fun _ => iprop(emp)) (u₀ := u₀) (hu₀ := ?_)
    (T₀ := fun c => iprop(StableHlo.held (c : Thread nD τ) (Pipeline.ucRefs τ sig) (V0 m c) ∗ nothing c))
    (Tₙ := fun c => StableHlo.held (c : Thread nD τ) (Pipeline.ucRefs τ sig) (V11 m (outs m) c))
    (hch := fun c => ⟨.rfl, .rfl, .rfl, .rfl, .rfl, .rfl, .rfl, .rfl, .rfl, .rfl, .rfl, .rfl⟩)
    (hinit := ?_) (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
      ∧ s.mem ((c.tc : Thread nD τ).loc main_v38) = V11 m (outs m) c main_v38 ∧ s.mem ((c.tc : Thread nD τ).loc main_v39) = V11 m (outs m) c main_v39 ∧ s.mem ((c.tc : Thread nD τ).loc main_v40) = V11 m (outs m) c main_v40)
    (hfin := fun c s' => ?_) (hQ := fun _ h hz => ⟨h, funext fun g => hz g (.inr (regions_no_unscoped g.2))⟩)
  · rw [ownU_emb₁]
    iintro Hu
    imodintro
    isplitl [Hu]; · iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V11 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V11_main_arg0 m (outs m) c),
        (h (Proc.devRef .tc main_arg1) (Finset.mem_filter.mpr ⟨StableHlo.devRef_mem_tcRefs main_arg1, by decide⟩)).trans (V11_main_arg1 m (outs m) c),
        (h (Proc.devRef .tc main_arg2) (Finset.mem_filter.mpr ⟨StableHlo.devRef_mem_tcRefs main_arg2, by decide⟩)).trans (V11_main_arg2 m (outs m) c),
        (h (Proc.devRef .tc main_arg3) (Finset.mem_filter.mpr ⟨StableHlo.devRef_mem_tcRefs main_arg3, by decide⟩)).trans (V11_main_arg3 m (outs m) c)⟩,
        h (Proc.devRef .tc main_v38) (Finset.mem_filter.mpr ⟨StableHlo.devRef_mem_tcRefs main_v38, by decide⟩),
        h (Proc.devRef .tc main_v39) (Finset.mem_filter.mpr ⟨StableHlo.devRef_mem_tcRefs main_v39, by decide⟩),
        h (Proc.devRef .tc main_v40) (Finset.mem_filter.mpr ⟨StableHlo.devRef_mem_tcRefs main_v40, by decide⟩)⟩
    · iexact HSI

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).1, h.2⟩) (run m ρ)

end K.Ideal

end
-- ==== Proof.K.MathHostKernelIdeal.lean ====
module

public import proofs.«01_k».proof.Proof.K.MathRegKernelIdeal
public import proofs.«01_k».proof.Proof.K.MathScale
public import proofs.«01_k».proof.Proof.K.RunKernelIdeal
public import Idealize.ShloMosaic.Lib.StableHlo.RunRead
public import Idealize.ShloMosaic.Lib.StableHlo.ReadAt

/-!
What the host operations between and around the two pallas_calls compute.
-/

@[expose] public section

noncomputable section

namespace K.Ideal

open Cert.KernelIdeal Cert.KernelIdeal.Gen

open Idealize.ShloMosaic
open Idealize.ShloMosaic.TcCoe Idealize.ShloMosaic.Tactic
open Idealize.SL Idealize.SL.Sem
open Idealize.ShloMosaic.StableHlo

variable (W : Valuation τ sig (Elt Ideal))

/-- The contents of the tables and of the partial maxima. -/
def tabW : FVec Ideal S1x278 .f32 := W main_cst
/-- The table of exponents. -/
def ctabW : IVec S1x278 32 := W main_c
/-- The partial maxima. -/
def amW : FVec Ideal S8x128 .f32 := W main_v4_2

/-- The greatest absolute value. -/
theorem host1_v6 : (after (hostOps1.take 3) W main_v6 : FVec Ideal S1x1 .f32) = aOf (amW W) := by
  simp only [List.take_succ_cons, List.take_zero]
  after_reads_simp
  rfl

/-- The exponent, from it. -/
theorem host1_exp : (after hostOps1_1 (after (hostOps1.drop 3) W) main_v25 : IVec S1x1 32) = expOf (tabW W) (W main_v6) := by
  simp only [List.drop_succ_cons, List.drop_zero]
  after_reads_simp
  rfl

/-- The exponent. -/
theorem host1_eOf : (after hostOps1_1 (after hostOps1 W) main_v25 : IVec S1x1 32) = expOf (tabW W) (aOf (amW W)) := by
  have h : after hostOps1 W = after (hostOps1.drop 3) (after (hostOps1.take 3) W) := rfl
  have ht : tabW (after (hostOps1.take 3) W) = tabW W := by
    unfold tabW
    simp only [List.take_succ_cons, List.take_zero]
    after_reads_simp
  rw [h, host1_exp, host1_v6, ht]

/-- The scale. -/
theorem host1_v23 :
    (after hostOps1_6 (after hostOps1_5 (after hostOps1_4 (after hostOps1_3 (after hostOps1_2 W)))) main_v30 : FVec Ideal S1x1 .f32)
      = powOf (tabW W) (ctabW W) (W main_v25) := by
  after_reads_simp
  rfl

/-- The inverse scale. -/
theorem host1_v29 :
    (after hostOps1_6 (after hostOps1_5 (after hostOps1_4 (after hostOps1_3 (after hostOps1_2 W)))) main_v36 : FVec Ideal S1x1 .f32)
      = powOf (tabW W) (ctabW W) (negi (W main_v25 : IVec S1x1 32)) := by
  after_reads_simp
  rfl

/-! ## Before the first call -/

/-- The first call's x is the argument, by rows. -/
theorem host0_v0 (ρ : Fin 4096) (L : Fin 27648) :
    (after hostOps0 W main_v0 : FVec Ideal S4096x27648 .bf16) (ix2 ρ L) = rows (W main_arg0) ρ L := by
  after_reads_at
  rfl

/-- Its dy is the argument, by rows. -/
theorem host0_v1 (ρ : Fin 4096) (L : Fin 27648) :
    (after hostOps0 W main_v1 : FVec Ideal S4096x27648 .bf16) (ix2 ρ L) = rows (W main_arg1) ρ L := by
  after_reads_at
  rfl

/-- Its gamma is the argument, as a row. -/
theorem host0_v2 (L : Fin 27648) :
    (after hostOps0 W main_v2 : FVec Ideal S1x27648 .f32) (ix2 0 L) = lanes (W main_arg2) L := by
  after_reads_at
  rfl

/-- Its rstd is the argument, as a column. -/
theorem host0_v3 (ρ : Fin 4096) :
    (after hostOps0 W main_v3 : FVec Ideal S4096x1 .f32) (ix2 ρ 0) = rowsR (W main_arg3) ρ := by
  after_reads_at
  rfl

/-- The table of powers of two holds its literals. -/
theorem host0_cst : (after hostOps0 W main_cst : FVec Ideal S1x278 .f32) = fun i => Ideal.ofBits .f32 (lit0 (S1x278.rowMajor i)) := by
  after_reads_simp
  rfl

/-- The table of exponents holds its literals. -/
theorem host0_c : (after hostOps0 W main_c : IVec S1x278 32) = fun i => lit1 (S1x278.rowMajor i) := by
  after_reads_simp
  rfl

/-- The returned dgamma is the first call's, without its first axis. -/
theorem host2_dg (L : Fin 27648) :
    (after hostOps2 W main_v38 : FVec Ideal S27648 .f32) (ix1 L) = (W main_v4_0 : FVec Ideal S1x27648 .f32) (ix2 0 L) := by
  after_reads_at

/-- The returned codes are the second call's, by batch and place. -/
theorem host2_codes (b : Fin 2) (s : Fin 2048) (L : Fin 27648) :
    (after hostOps2 W main_v39 : FVec Ideal S2x2048x27648 .fp8e5m2) (ix3 b s L) = (W main_v37 : FVec Ideal S4096x27648 .fp8e5m2) (ix2 (flat b s) L) := by
  after_reads_at
  rfl

/-- The returned scale is the scale. -/
theorem host2_scale :
    (after hostOps2 W main_v40 : FVec Ideal S1x1x1 .f32) (ix3 0 0 0) = (W main_v30 : FVec Ideal S1x1 .f32) (ix2 0 0) := by
  after_reads_at

end K.Ideal
-- ==== Proof.K.MathResKernelIdeal.lean ====
module

public import proofs.«01_k».proof.Proof.K.MathHostKernelIdeal

/-!
The kernel's three results over the extended reals, as formulas of its arguments.
-/

@[expose] public section

noncomputable section

namespace K.Ideal

open Cert.KernelIdeal Cert.KernelIdeal.Gen

open Idealize.ShloMosaic
open Idealize.ShloMosaic.TcCoe Idealize.ShloMosaic.Tactic
open Idealize.SL Idealize.SL.Sem
open Idealize.ShloMosaic.StableHlo

variable (m : (ℓ : Loc nD τ sig) → Buf (Elt Ideal) ℓ)

/-- The arguments by rows and lanes. -/
def xM (c : Dev nD) : Fin 4096 → Fin 27648 → EReal := rows (V0 m c main_arg0)
/-- dy by rows and lanes. -/
def dyM (c : Dev nD) : Fin 4096 → Fin 27648 → EReal := rows (V0 m c main_arg1)
/-- gamma by lanes. -/
def gM (c : Dev nD) : Fin 27648 → EReal := lanes (V0 m c main_arg2)
/-- rstd by rows. -/
def rM (c : Dev nD) : Fin 4096 → EReal := rowsR (V0 m c main_arg3)

/-- The first call reads the argument x. -/
theorem xF0 (c : Dev nD) : xF (vals0 m) c = xM m c := funext fun ρ => funext fun L => host0_v0 (V0 m c) ρ L
/-- The first call reads the argument dy. -/
theorem dyF0 (c : Dev nD) : dyF (vals0 m) c = dyM m c := funext fun ρ => funext fun L => host0_v1 (V0 m c) ρ L
/-- The first call reads the argument gamma. -/
theorem gF0 (c : Dev nD) : gF (vals0 m) c = gM m c := funext fun L => host0_v2 (V0 m c) L
/-- The first call reads the argument rstd. -/
theorem rF0 (c : Dev nD) : rF (vals0 m) c = rM m c := funext fun ρ => host0_v3 (V0 m c) ρ

/-- A buffer neither the first call nor the host operations after it write. -/
theorem V9_kept (c : Dev nD) (r : Ref sig .tc) (h6 : r ∉ hostOps1_6_W) (h5 : r ∉ hostOps1_5_W) (h4 : r ∉ hostOps1_4_W)
    (h3 : r ∉ hostOps1_3_W) (h2 : r ∉ hostOps1_2_W) (h1 : r ∉ hostOps1_1_W) (h0 : r ∉ hostOps1_W) :
    V9 m (outs m) c r = V2 m (outs m) c r :=
  (V9_of m (outs m) c r h6).trans <| (V8_of m (outs m) c r h5).trans <| (V7_of m (outs m) c r h4).trans <|
    (V6_of m (outs m) c r h3).trans <| (V5_of m (outs m) c r h2).trans <| (V4_of m (outs m) c r h1).trans (V3_of m (outs m) c r h0)

/-- The second call is entered with the first's x, -/
theorem vals1_v0 (c : Dev nD) : vals1 m c main_v0 = vals0 m c main_v0 :=
  (vals1_eq m c _).trans <| (V9_kept m c main_v0 (by decide) (by decide) (by decide) (by decide) (by decide) (by decide) (by decide)).trans
    (V2_of m (outs m) c main_v0 (by decide))
/-- with its dy, -/
theorem vals1_v1 (c : Dev nD) : vals1 m c main_v1 = vals0 m c main_v1 :=
  (vals1_eq m c _).trans <| (V9_kept m c main_v1 (by decide) (by decide) (by decide) (by decide) (by decide) (by decide) (by decide)).trans
    (V2_of m (outs m) c main_v1 (by decide))
/-- with its gamma, -/
theorem vals1_v2 (c : Dev nD) : vals1 m c main_v2 = vals0 m c main_v2 :=
  (vals1_eq m c _).trans <| (V9_kept m c main_v2 (by decide) (by decide) (by decide) (by decide) (by decide) (by decide) (by decide)).trans
    (V2_of m (outs m) c main_v2 (by decide))
/-- with its rstd, -/
theorem vals1_v3 (c : Dev nD) : vals1 m c main_v3 = vals0 m c main_v3 :=
  (vals1_eq m c _).trans <| (V9_kept m c main_v3 (by decide) (by decide) (by decide) (by decide) (by decide) (by decide) (by decide)).trans
    (V2_of m (outs m) c main_v3 (by decide))
/-- and with the means it left. -/
theorem vals1_v4_1 (c : Dev nD) : vals1 m c main_v4_1 = (dat0 (vals0 m) c).arrAt 5 cfg0.N :=
  (vals1_eq m c _).trans <| (V9_kept m c main_v4_1 (by decide) (by decide) (by decide) (by decide) (by decide) (by decide) (by decide)).trans
    (V2_v4_1 m c)

/-- The second call reads the argument x. -/
theorem xF1 (c : Dev nD) : xF (vals1 m) c = xM m c := by unfold xF; rw [vals1_v0]; exact xF0 m c
/-- The second call reads the argument dy. -/
theorem dyF1 (c : Dev nD) : dyF (vals1 m) c = dyM m c := by unfold dyF; rw [vals1_v1]; exact dyF0 m c
/-- The second call reads the argument gamma. -/
theorem gF1 (c : Dev nD) : gF (vals1 m) c = gM m c := by unfold gF; rw [vals1_v2]; exact gF0 m c
/-- The second call reads the argument rstd. -/
theorem rF1 (c : Dev nD) : rF (vals1 m) c = rM m c := by unfold rF; rw [vals1_v3]; exact rF0 m c

/-- The means the second call reads are the rows' means. -/
theorem means1 (c : Dev nD) (ρ : Fin 4096) : (vals1 m c main_v4_1 : FVec Ideal S4096x1 .f32) (ix2 ρ 0)
    = spC (xF (vals1 m) c) (dyF (vals1 m) c) (gF (vals1 m) c) (rF (vals1 m) c) ρ := by
  rw [vals1_v4_1, xF1, dyF1, gF1, rF1]
  refine (c_array (vals0 m) c ρ).trans ?_
  rw [xF0, dyF0, gF0, rF0]

/-- The tables. -/
def tabK : FVec Ideal S1x278 .f32 := fun i => Ideal.ofBits .f32 (lit0 (S1x278.rowMajor i))
/-- The table of exponents. -/
def ctabK : IVec S1x278 32 := fun i => lit1 (S1x278.rowMajor i)

/-- The greatest of |dx|, as the kernel finds it. -/
def aK (c : Dev nD) : FVec Ideal K.S1x1 .f32 := aOf (amAt (vals0 m) c 128)

/-- It is their least upper bound. -/
theorem aK_isAmax (c : Dev nD) : IsAmax (xM m c) (dyM m c) (gM m c) (rM m c) (aK m c (ix2 0 0)) := by
  intro u
  unfold aK
  rw [aOf_le]
  simp only [amAt_le (vals0 m) c _ _ u 128 le_rfl, xF0, dyF0, gF0, rF0]
  constructor
  · rintro ⟨h0, h⟩
    refine ⟨h0, fun ρ L => ?_⟩
    obtain ⟨t, i, rfl⟩ := exists_row ρ
    obtain ⟨a, k, rfl⟩ := exists_sub8 i
    obtain ⟨j, l, rfl⟩ := exists_lane L
    exact ((h k l).2 t t.isLt j).2 a
  · rintro ⟨h0, h⟩
    exact ⟨h0, fun k l => ⟨(eabs_nonneg _).trans (h 0 0), fun t _ j => ⟨h0, fun a => h _ _⟩⟩⟩

/-- After the first call the table of powers is as it was, -/
theorem tab2 (c : Dev nD) : tabW (V2 m (outs m) c) = tabK :=
  (V2_of m (outs m) c main_cst (by decide)).trans (host0_cst (V0 m c))
/-- so is the table of exponents, -/
theorem ctab2 (c : Dev nD) : ctabW (V2 m (outs m) c) = ctabK :=
  (V2_of m (outs m) c main_c (by decide)).trans (host0_c (V0 m c))
/-- and the maxima are those of all 128 blocks. -/
theorem am2 (c : Dev nD) : amW (V2 m (outs m) c) = amAt (vals0 m) c 128 :=
  (V2_v4_2 m c).trans (am_array (vals0 m) c)

/-- Once the exponent is found, the table of powers is as it was, -/
theorem tab4 (c : Dev nD) : tabW (V4 m (outs m) c) = tabK :=
  (V4_of m (outs m) c main_cst (by decide)).trans ((V3_of m (outs m) c main_cst (by decide)).trans (tab2 m c))
/-- and so is the table of exponents. -/
theorem ctab4 (c : Dev nD) : ctabW (V4 m (outs m) c) = ctabK :=
  (V4_of m (outs m) c main_c (by decide)).trans ((V3_of m (outs m) c main_c (by decide)).trans (ctab2 m c))
/-- The exponent the host finds is that of the greatest |dx|. -/
theorem e4 (c : Dev nD) : (V4 m (outs m) c main_v25 : IVec K.S1x1 32) = expOf tabK (aK m c) := by
  refine (host1_eOf (V2 m (outs m) c)).trans ?_
  rw [tab2, am2]
  rfl

/-- The scale. -/
theorem scale9 (c : Dev nD) : (V9 m (outs m) c main_v30 : FVec Ideal K.S1x1 .f32) = powOf tabK ctabK (expOf tabK (aK m c)) := by
  refine (host1_v23 (V4 m (outs m) c)).trans ?_
  rw [tab4, ctab4, e4]

/-- The inverse scale. -/
theorem inv9 (c : Dev nD) : (V9 m (outs m) c main_v36 : FVec Ideal K.S1x1 .f32) = powOf tabK ctabK (negi (expOf tabK (aK m c))) := by
  refine (host1_v29 (V4 m (outs m) c)).trans ?_
  rw [tab4, ctab4, e4]

/-- The kernel's dgamma. -/
theorem res_dg (c : Dev nD) (L : Fin 27648) :
    (V11 m (outs m) c main_v38 : FVec Ideal S27648 .f32) (ix1 L) = spDg (xM m c) (dyM m c) (rM m c) L := by
  refine (host2_dg (V10 m (outs m) c) L).trans ?_
  have h : V10 m (outs m) c main_v4_0 = (dat0 (vals0 m) c).arrAt 4 cfg0.N :=
    (V10_of m (outs m) c main_v4_0 (by decide)).trans <|
      (V9_kept m c main_v4_0 (by decide) (by decide) (by decide) (by decide) (by decide) (by decide) (by decide)).trans (V2_v4_0 m c)
  rw [h]
  refine (dg_array (vals0 m) c L).trans ?_
  rw [xF0, dyF0, rF0]

/-- The kernel's codes. -/
theorem res_codes (c : Dev nD) (b : Fin 2) (s : Fin 2048) (L : Fin 27648) :
    (V11 m (outs m) c main_v39 : FVec Ideal S2x2048x27648 .fp8e5m2) (ix3 b s L)
      = clip (spDx (xM m c) (dyM m c) (gM m c) (rM m c) (flat b s) L * powOf tabK ctabK (negi (expOf tabK (aK m c))) (ix2 0 0)) := by
  refine (host2_codes (V10 m (outs m) c) b s L).trans ?_
  rw [V10_v30]
  refine (codes_array (vals1 m) c (means1 m c) (flat b s) L).trans ?_
  rw [xF1, dyF1, gF1, rF1, vals1_eq, inv9]

/-- The kernel's scale. -/
theorem res_scale (c : Dev nD) :
    (V11 m (outs m) c main_v40 : FVec Ideal S1x1x1 .f32) (ix3 0 0 0) = powOf tabK ctabK (expOf tabK (aK m c)) (ix2 0 0) := by
  refine (host2_scale (V10 m (outs m) c)).trans ?_
  rw [V10_of m (outs m) c main_v30 (by decide), scale9]

end K.Ideal
-- ==== Proof.K.MathHostReferenceIdeal.lean ====
module

public import proofs.«01_k».proof.Proof.K.MathScale
public import proofs.«01_k».proof.Proof.Gen.ReferenceIdeal.Frame
public import Idealize.ShloMosaic.Lib.StableHlo.RunRead
public import Idealize.ShloMosaic.Lib.StableHlo.ReadAt
public import Idealize.ShloMosaic.Lib.Pointwise

/-!
What the reference's host operations compute over the extended reals.
-/

@[expose] public section

noncomputable section

namespace K.Ref

open Cert.ReferenceIdeal Cert.ReferenceIdeal.Gen

open Idealize.ShloMosaic
open Idealize.ShloMosaic.TcCoe Idealize.ShloMosaic.Tactic
open Idealize.SL Idealize.SL.Sem
open Idealize.ShloMosaic.StableHlo

variable (W : Valuation τ sig (Elt Ideal))

/-- The indices of three axes that keep coordinate `L` on the last. -/
theorem fiber01 {n0 n1 n2 : ℕ} (h : (⟨3, ![n0, n1, n2]⟩ : Shape).ReducesTo [0, 1] ⟨1, ![n2]⟩) (L : Fin n2)
    (i : (⟨3, ![n0, n1, n2]⟩ : Shape).Idx) : h.drop i = ix1 L ↔ ∃ k : Fin n0 × Fin n1, ix3 k.1 k.2 L = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- A sum over the first two of three axes. -/
theorem sum01 {n0 n1 n2 : ℕ} (h : (⟨3, ![n0, n1, n2]⟩ : Shape).ReducesTo [0, 1] ⟨1, ![n2]⟩) (v : (⟨3, ![n0, n1, n2]⟩ : Shape).Idx → EReal)
    (init : EReal) (L : Fin n2) : Ideal.hostReduceAdd h v init (ix1 L) = init + ∑ b : Fin n0, ∑ s : Fin n1, v (ix3 b s L) := by
  rw [← Fintype.sum_prod_type' (fun b s => v (ix3 b s L))]
  exact congrArg (init + ·) (Finset.sum_filter_eq_sum_of_fiber _ (fun k : Fin n0 × Fin n1 => ix3 k.1 k.2 L)
    (fun a b e => Prod.ext (congrFun e 0) (congrFun e 1)) (fiber01 h L) v)

/-- The arguments by rows and lanes, and the tables. -/
def xW : Fin 4096 → Fin 27648 → EReal := rows (W main_arg0)
/-- dy by rows and lanes. -/
def dyW : Fin 4096 → Fin 27648 → EReal := rows (W main_arg1)
/-- gamma by lanes. -/
def gW : Fin 27648 → EReal := lanes (W main_arg2)
/-- rstd by rows. -/
def rW : Fin 4096 → EReal := rowsR (W main_arg3)
/-- The lower ends of the intervals. -/
def lowW : FVec Ideal S1x278 .f32 := W main_cst
/-- The powers of two, the upper ends. -/
def tabW : FVec Ideal S1x278 .f32 := W main_cst_0
/-- The exponents. -/
def ctabW : IVec S1x278 32 := W main_c

/-- The values at a flat row are those of its batch and place. -/
theorem xW_flat (b : Fin 2) (s : Fin 2048) (L : Fin 27648) : xW W (flat b s) L = (W main_arg0 : FVec Ideal S2x2048x27648 .bf16) (ix3 b s L) := by
  unfold xW rows; rw [rb_flat, rs_flat]
/-- The same of dy. -/
theorem dyW_flat (b : Fin 2) (s : Fin 2048) (L : Fin 27648) : dyW W (flat b s) L = (W main_arg1 : FVec Ideal S2x2048x27648 .bf16) (ix3 b s L) := by
  unfold dyW rows; rw [rb_flat, rs_flat]
/-- The same of rstd. -/
theorem rW_flat (b : Fin 2) (s : Fin 2048) : rW W (flat b s) = (W main_arg3 : FVec Ideal S2x2048 .f32) (ix2 b s) := by
  unfold rW rowsR; rw [rb_flat, rs_flat]

/-- The reference's mean. -/
theorem ref_v12 (b : Fin 2) (s : Fin 2048) :
    (after (hostOps0.take 18) W main_v12 : FVec Ideal S2x2048x1 .f32) (ix3 b s 0) = spC (xW W) (dyW W) (gW W) (rW W) (flat b s) := by
  unfold spC
  simp only [xW_flat, dyW_flat, rW_flat]
  simp only [List.take_succ_cons, List.take_zero]
  after_reads_at
  rfl

/-- The reference's dgamma. -/
theorem ref_v21 (L : Fin 27648) :
    (after (hostOps0.take 28) W main_v21 : FVec Ideal S27648 .f32) (ix1 L) = spDg (xW W) (dyW W) (rW W) L := by
  unfold spDg
  refine Eq.trans ?_ (sum_groups (m := 2) (n := 2048) (by norm_num) flat (fun b s => by unfold flat; dsimp only; omega) _).symm
  simp only [xW_flat, dyW_flat, rW_flat]
  simp only [List.take_succ_cons, List.take_zero]
  after_reads_at
  refine (sum01 _ _ _ L).trans ?_
  rw [zero_add]
  pointwise

/-- The values dx is made of. -/
def rbW : FVec Ideal S2x2048x1 .f32 := W main_v2
/-- dy times gamma, -/
def dgW : FVec Ideal S2x2048x27648 .f32 := W main_v7
/-- xhat, -/
def xrW : FVec Ideal S2x2048x27648 .f32 := W main_v4
/-- the mean, -/
def cW : FVec Ideal S2x2048x1 .f32 := W main_v12
/-- and dx itself. -/
def dxW : FVec Ideal S2x2048x27648 .f32 := W main_v19

/-- They are the arguments' products. -/
theorem ref_v2 (b : Fin 2) (s : Fin 2048) : rbW (after (hostOps0.take 18) W) (ix3 b s 0) = rW W (flat b s) := by
  unfold rbW
  rw [rW_flat]
  simp only [List.take_succ_cons, List.take_zero]
  after_reads_at
/-- `g` is dy times gamma, -/
theorem ref_v7 (b : Fin 2) (s : Fin 2048) (L : Fin 27648) :
    dgW (after (hostOps0.take 18) W) (ix3 b s L) = dyW W (flat b s) L * gW W L := by
  unfold dgW
  rw [dyW_flat]
  simp only [List.take_succ_cons, List.take_zero]
  after_reads_at
  rfl
/-- and xhat is x times rstd. -/
theorem ref_v4 (b : Fin 2) (s : Fin 2048) (L : Fin 27648) :
    xrW (after (hostOps0.take 18) W) (ix3 b s L) = xW W (flat b s) L * rW W (flat b s) := by
  unfold xrW
  rw [xW_flat, rW_flat]
  simp only [List.take_succ_cons, List.take_zero]
  after_reads_at

/-- dx, from them. -/
theorem ref_dx (b : Fin 2) (s : Fin 2048) (L : Fin 27648) :
    (after ((hostOps0.drop 18).take 7) W main_v19 : FVec Ideal S2x2048x27648 .f32) (ix3 b s L)
      = rbW W (ix3 b s 0) * dgW W (ix3 b s L) - rbW W (ix3 b s 0) * (xrW W (ix3 b s L) * cW W (ix3 b s 0)) := by
  simp only [List.take_succ_cons, List.take_zero, List.drop_succ_cons, List.drop_zero]
  after_reads_at
  rfl

/-- The reference's dx. -/
theorem ref_v19 (b : Fin 2) (s : Fin 2048) (L : Fin 27648) :
    dxW (after ((hostOps0.drop 18).take 7) (after (hostOps0.take 18) W)) (ix3 b s L)
      = spDx (xW W) (dyW W) (gW W) (rW W) (flat b s) L := by
  refine (ref_dx _ b s L).trans ?_
  have h : cW (after (hostOps0.take 18) W) (ix3 b s 0) = spC (xW W) (dyW W) (gW W) (rW W) (flat b s) := ref_v12 W b s
  rw [ref_v2, ref_v7, ref_v4, h]
  rfl

/-- A bound of a greatest value over three axes is a bound of each. -/
theorem fold3_le {n0 n1 n2 : ℕ} (b u : EReal) (f : Fin n0 → Fin n1 → Fin n2 → EReal) :
    Finset.fold max b (fun k : Fin n0 × Fin n1 × Fin n2 => f k.1 k.2.1 k.2.2) Finset.univ ≤ u ↔ b ≤ u ∧ ∀ b s L, f b s L ≤ u := by
  rw [Finset.fold_max_le]
  exact and_congr_right fun _ => ⟨fun h b s L => h (b, s, L) (Finset.mem_univ _), fun h k _ => h k.1 k.2.1 k.2.2⟩

/-- The reference's greatest absolute value. -/
def aR : FVec Ideal K.S1x1 .f32 := after ((hostOps0.drop 25).take 7) W main_v24

/-- A bound of it. -/
theorem aR_le (u : EReal) : aR W (ix2 0 0) ≤ u ↔ negInf ≤ u ∧ ∀ b s L, eabs (dxW W (ix3 b s L)) ≤ u := by
  have h : aR W (ix2 0 0) = Finset.fold max negInf (fun k : Fin 2 × Fin 2048 × Fin 27648 => eabs (dxW W (ix3 k.1 k.2.1 k.2.2))) Finset.univ := by
    unfold aR
    simp only [List.take_succ_cons, List.take_zero, List.drop_succ_cons, List.drop_zero]
    after_reads_simp
    pointwise
    rfl
  rw [h]
  exact fold3_le _ u fun b s L => eabs (dxW W (ix3 b s L))

/-- The exponents left standing where the quotient lies, -/
theorem ref_sel :
    (after hostOps0_1 (after (hostOps0.drop 32) W) main_v36 : IVec S1x278 32) = selOf (lowW W) (tabW W) (ctabW W) (W main_v24) := by
  simp only [List.drop_succ_cons, List.drop_zero]
  after_reads_simp
  rfl
/-- found without touching the greatest |dx|, -/
theorem ref_a_keep : (after hostOps0_1 (after (hostOps0.drop 32) W) main_v24 : FVec Ideal S1x1 .f32) = W main_v24 := by
  simp only [List.drop_succ_cons, List.drop_zero]
  after_reads_simp
/-- their sum, -/
theorem ref_total : (after hostOps0_2 W main_v38 : IVec K.S1x1 32) = totalOf (W main_v36) := by
  after_reads_simp
  rfl
/-- whether the greatest |dx| is 0, -/
theorem ref_isZero : (after hostOps0_2 W main_v40 : IVec K.S1x1 1) = isZero (W main_v24) := by
  after_reads_simp
  rfl
/-- the word 0, -/
theorem ref_zero : (after hostOps0_2 W main_c_10 : IVec K.Sone 32) = constantI K.Sone 32 0#32 := by
  after_reads_simp
/-- and the choice between it and the sum. -/
theorem ref_choice : (after hostOps0_3 W main_v41 : IVec K.S1x1 32)
    = select (W main_v40) (broadcastInDim K.S1x1 ![] (by decide) (W main_c_10 : IVec K.Sone 32)) (W main_v38) := by
  after_reads_simp
  rfl
/-- So the exponent is the one of the interval that has the quotient. -/
theorem ref_eOf :
    (after hostOps0_3 (after hostOps0_2 (after hostOps0_1 (after (hostOps0.drop 32) W))) main_v41 : IVec K.S1x1 32)
      = expRef (lowW W) (tabW W) (ctabW W) (W main_v24) := by
  rw [ref_choice, ref_total, ref_isZero, ref_zero, ref_sel, ref_a_keep]
  rfl

/-- The scale, -/
theorem ref_scale :
    (after hostOps0_8 (after hostOps0_7 (after hostOps0_6 (after hostOps0_5 (after hostOps0_4 W)))) main_v55 : FVec Ideal S1x1x1 .f32) (ix3 0 0 0)
      = powRef (tabW W) (ctabW W) (W main_v41) (ix2 0 0) := by
  after_reads_simp
  rfl

/-- and its inverse. -/
theorem ref_inv :
    (after hostOps0_8 (after hostOps0_7 (after hostOps0_6 (after hostOps0_5 (after hostOps0_4 W)))) main_v56 : FVec Ideal S1x1x1 .f32) (ix3 0 0 0)
      = powRef (tabW W) (ctabW W) (negOf (W main_v41 : IVec K.S1x1 32)) (ix2 0 0) := by
  after_reads_simp
  rfl

end K.Ref
-- ==== Proof.K.MathExp.lean ====
module

public import proofs.«01_k».proof.Proof.K.MathScale
public import Idealize.ShloMosaic.Lib.IndicatorCount
public import Idealize.ShloMosaic.Lib.WordCmp
public import Idealize.ShloMosaic.Lib.TotalOrder
public import Idealize.ShloMosaic.Lib.Pointwise

/-!
The kernel's exponent and powers of two against the reference's. The kernel counts the powers of two not above the
quotient, and takes the greatest table entry up to an exponent; the reference looks for the one interval that has the
quotient, and for the one entry with the exponent.
-/

@[expose] public section

noncomputable section

namespace K

open Idealize.ShloMosaic Idealize.SL.Sem

/-- What the tables are: `up` increases from a nonnegative number to infinity, `low` is `up` one place on with 0 in front,
and entry `k` has the exponent `k - 149`. -/
structure IsTable (low up : Fin 278 → EReal) (c : Fin 278 → BitVec 32) : Prop where
  mono : Monotone up
  nonneg : 0 ≤ up 0
  top : up 277 = ⊤
  low_zero : low 0 = 0
  low_succ : ∀ k : Fin 277, low k.succ = up k.castSucc
  exp : ∀ k, (c k).toInt = (k.val : Int) - 149

/-- A word chosen by a bit that says a proposition is chosen by the proposition. -/
theorem select_decide {α : Type} (P : Prop) [Decidable P] (x y : α) : Scalar.select (BitVec.ofBool (decide P)) x y = if P then x else y := by
  by_cases h : P
  · simp [Scalar.select, h]
  · simp [Scalar.select, h]

/-- Two bits are both set when both propositions hold. -/
theorem andi_decide (P Q : Prop) [Decidable P] [Decidable Q] :
    IntOp.andi (BitVec.ofBool (decide P)) (BitVec.ofBool (decide Q)) = BitVec.ofBool (decide (P ∧ Q)) := by
  by_cases h : P <;> by_cases h' : Q <;> simp [h, h', IntOp.andi]

/-- A sum of words of which at most one is not zero is that one, if it is among them. -/
theorem fold_ite (n : Fin 278) (c : Fin 278 → BitVec 32) (S : Finset (Fin 278)) :
    S.fold IntOp.addi (0#32) (fun k => if k = n then c k else 0#32) = if n ∈ S then c n else 0#32 := by
  classical
  induction S using Finset.induction_on with
  | empty => rfl
  | insert a S ha ih =>
    rw [Finset.fold_insert ha, ih]
    by_cases h : a = n
    · subst h
      simp [ha, IntOp.addi]
    · simp [h, Ne.symm h, IntOp.addi]

/-- A sum of words of which one is not zero is that one. -/
theorem fold_single (n : Fin 278) (P : Fin 278 → Prop) [DecidablePred P] (c : Fin 278 → BitVec 32) (h : ∀ k, P k ↔ k = n) :
    Finset.fold IntOp.addi (0#32) (fun k => if P k then c k else 0#32) Finset.univ = c n := by
  simp only [h]
  rw [fold_ite, if_pos (Finset.mem_univ n)]

/-- A sum of zero words is zero. -/
theorem fold_none (P : Fin 278 → Prop) [DecidablePred P] (c : Fin 278 → BitVec 32) (h : ∀ k, ¬P k) :
    Finset.fold IntOp.addi (0#32) (fun k => if P k then c k else 0#32) Finset.univ = 0#32 := by
  simp only [h, if_false]
  have e : ∀ S : Finset (Fin 278), S.fold IntOp.addi (0#32) (fun _ => 0#32) = 0#32 := by
    classical
    intro S
    induction S using Finset.induction_on with
    | empty => rfl
    | insert a S ha ih => rw [Finset.fold_insert ha, ih]; rfl
  exact e _

/-- A count less 149, as a word. -/
theorem sub149 (n : Fin 278) : (BitVec.ofNat 32 n.val - 149#32).toInt = (n.val : Int) - 149 := by
  revert n
  decide

section

variable {low up : Fin 278 → EReal} {c : Fin 278 → BitVec 32} (T : IsTable low up c)
include T

/-- A number below infinity has a first entry above it: those before it are not above the number. -/
theorem IsTable.first {t : EReal} (ht : t < ⊤) : ∃ n : Fin 278, ∀ k, up k ≤ t ↔ k < n := by
  classical
  have hex : ∃ n : Fin 278, t < up n := ⟨277, by rw [T.top]; exact ht⟩
  have hne : (Finset.univ.filter fun n : Fin 278 => t < up n).Nonempty := hex.imp fun n h => by simpa using h
  refine ⟨(Finset.univ.filter fun n : Fin 278 => t < up n).min' hne, fun k => ⟨fun h => ?_, fun h => ?_⟩⟩
  · by_contra hk
    have h1 := (Finset.mem_filter.1 (Finset.min'_mem _ hne)).2
    exact absurd (h1.trans_le (T.mono (not_lt.1 hk))) (not_lt.2 h)
  · by_contra hk
    exact absurd (Finset.min'_le _ k (by simpa using hk)) (not_le.2 h)

/-- A positive number lies between `low` and `up` at that entry alone. -/
theorem IsTable.interval {t : EReal} (h0 : 0 < t) {n : Fin 278} (hn : ∀ k, up k ≤ t ↔ k < n) (k : Fin 278) :
    (0 < t ∧ low k ≤ t) ∧ t < up k ↔ k = n := by
  have hu : t < up k ↔ n ≤ k := by rw [← not_le, hn, not_lt]
  have hl : low k ≤ t ↔ k ≤ n := by
    cases k using Fin.cases with
    | zero => simp [T.low_zero, h0.le]
    | succ k =>
      rw [T.low_succ, hn]
      rw [Fin.lt_def, Fin.le_def, Fin.val_castSucc, Fin.val_succ]
      omega
  rw [hu, hl]
  exact ⟨fun h => le_antisymm h.1.2 h.2, fun h => ⟨⟨h0, h.le⟩, h.ge⟩⟩

/-- The count less 149 is that entry's exponent. -/
theorem IsTable.count {t : EReal} {n : Fin 278} (hn : ∀ k, up k ≤ t ↔ k < n) :
    IntOp.subi (Finset.fold IntOp.addi (0#32) (fun k => BitVec.setWidth 32 (BitVec.ofBool (decide (up k ≤ t)))) Finset.univ) 149#32 = c n := by
  rw [IndicatorCount.fold_addi_setWidth_eq_card]
  have e : (Finset.univ.filter fun k : Fin 278 => BitVec.ofBool (decide (up k ≤ t)) = 1#1) = Finset.Iio n := by
    ext k
    by_cases h : k < n <;> simp [hn, h]
  rw [e, Fin.card_Iio]
  apply BitVec.eq_of_toInt_eq
  rw [T.exp]
  exact sub149 n

/-- The exponents agree. -/
theorem IsTable.exp_eq (t : EReal) (z : EReal) (hz : z = ⊤) :
    IntOp.muli
        (IntOp.subi (Finset.fold IntOp.addi (0#32) (fun k => BitVec.setWidth 32 (BitVec.ofBool (decide (up k ≤ t)))) Finset.univ) 149#32)
        (BitVec.setWidth 32 (IntOp.andi (BitVec.ofBool (decide (0 < t))) (BitVec.ofBool (decide (t < z)))))
      = Finset.fold IntOp.addi (0#32)
        (fun k => Scalar.select
          (IntOp.andi (IntOp.andi (BitVec.ofBool (decide (0 < t))) (BitVec.ofBool (decide (low k ≤ t)))) (BitVec.ofBool (decide (t < up k))))
          (c k) 0#32) Finset.univ := by
  subst hz
  simp only [andi_decide, select_decide]
  by_cases h : 0 < t ∧ t < ⊤
  · obtain ⟨n, hn⟩ := T.first h.2
    rw [T.count hn, fold_single n _ c (T.interval h.1 hn)]
    simp [h, IntOp.muli]
  · rw [fold_none _ c fun k hk => h ⟨hk.1.1, hk.2.trans_le le_top⟩]
    simp [h, IntOp.muli]

/-- The powers of two agree at every exponent from -149 up. -/
theorem IsTable.pow_eq (e : BitVec 32) (he : -149 ≤ e.toInt) (z : EReal) (hz : z = ⊥) :
    Finset.fold max z (fun k => Scalar.select (IntOp.cmpi .sge e (c k)) (up k) 0) Finset.univ
      = ∑ k, Scalar.select (IntOp.cmpi .eq (IntOp.minsi e 128#32) (c k)) (up k) 0 := by
  subst hz
  have hu : ∀ k, 0 ≤ up k := fun k => T.nonneg.trans (T.mono (Fin.zero_le k))
  have hm : (IntOp.minsi e 128#32).toInt = min e.toInt 128 := by
    have h128 : (128#32 : BitVec 32).toInt = 128 := by decide
    unfold IntOp.minsi
    by_cases h : e.toInt < 128
    · rw [if_pos (by simpa [BitVec.slt, h128] using h)]; omega
    · rw [if_neg (by simpa [BitVec.slt, h128] using h), h128]; omega
  obtain ⟨n, hn⟩ : ∃ n : Fin 278, (n.val : Int) - 149 = min e.toInt 128 :=
    ⟨⟨(min e.toInt 128 + 149).toNat, by omega⟩, by simp only; omega⟩
  have hge : ∀ k, Scalar.select (IntOp.cmpi .sge e (c k)) (up k) 0 = if k ≤ n then up k else 0 := by
    intro k
    have hk := k.isLt
    have h : (c k).toInt ≤ e.toInt ↔ k ≤ n := by rw [T.exp, Fin.le_def]; omega
    rw [WordCmp.cmpi_sge_eq, select_decide]
    simp only [h]
  have heq : ∀ k, Scalar.select (IntOp.cmpi .eq (IntOp.minsi e 128#32) (c k)) (up k) 0 = if k = n then up k else 0 := by
    intro k
    have h : IntOp.minsi e 128#32 = c k ↔ k = n := by
      rw [← BitVec.toInt_inj, hm, T.exp, Fin.ext_iff]
      omega
    have h1 : IntOp.cmpi .eq (IntOp.minsi e 128#32) (c k) = BitVec.ofBool (decide (IntOp.minsi e 128#32 = c k)) := by
      show BitVec.ofBool (_ == _) = _
      rw [beq_eq_decide]
    rw [h1, select_decide]
    simp only [h]
  simp only [hge, heq]
  rw [Finset.sum_ite_eq' Finset.univ n up, if_pos (Finset.mem_univ _)]
  apply le_antisymm
  · rw [Finset.fold_max_le]
    refine ⟨bot_le, fun k _ => ?_⟩
    split
    · exact T.mono ‹_›
    · exact hu n
  · rw [Finset.le_fold_max]
    exact Or.inr ⟨n, Finset.mem_univ _, by simp⟩

/-- The reference's exponent is 0 or a table entry's. -/
theorem IsTable.exp_range (t : EReal) :
    -149 ≤ (Finset.fold IntOp.addi (0#32)
        (fun k => Scalar.select
          (IntOp.andi (IntOp.andi (BitVec.ofBool (decide (0 < t))) (BitVec.ofBool (decide (low k ≤ t)))) (BitVec.ofBool (decide (t < up k))))
          (c k) 0#32) Finset.univ).toInt
      ∧ (Finset.fold IntOp.addi (0#32)
        (fun k => Scalar.select
          (IntOp.andi (IntOp.andi (BitVec.ofBool (decide (0 < t))) (BitVec.ofBool (decide (low k ≤ t)))) (BitVec.ofBool (decide (t < up k))))
          (c k) 0#32) Finset.univ).toInt ≤ 128 := by
  simp only [andi_decide, select_decide]
  by_cases h : 0 < t ∧ t < ⊤
  · obtain ⟨n, hn⟩ := T.first h.2
    rw [fold_single n _ c (T.interval h.1 hn), T.exp]
    have := n.isLt
    omega
  · rw [fold_none _ c fun k hk => h ⟨hk.1.1, hk.2.trans_le le_top⟩]
    decide

end

/-! ## On the host's arrays -/

/-- Arrays of one row of 278, by place. -/
def at278 {α : Type} (v : S1x278.Idx → α) : Fin 278 → α := fun k => v (ix2 0 k)

variable {low up : FVec Ideal S1x278 .f32} {c : IVec S1x278 32} (T : IsTable (at278 low) (at278 up) (at278 c))
include T

/-- Kernel and reference find the same exponent, -/
theorem exp_same (a : FVec Ideal S1x1 .f32) : expOf up a (ix2 0 0) = expRef low up c a (ix2 0 0) := by
  unfold expOf expRef isZero totalOf selOf tOf
  pointwise
  exact if_congr Iff.rfl rfl (T.exp_eq _ _ (by simp [Ideal.ofBits, Ideal.ieee]))

/-- which lies within the table, -/
theorem exp_within (a : FVec Ideal S1x1 .f32) :
    -149 ≤ (expRef low up c a (ix2 0 0)).toInt ∧ (expRef low up c a (ix2 0 0)).toInt ≤ 128 := by
  unfold expRef isZero totalOf selOf tOf
  pointwise
  split
  · decide
  · exact T.exp_range _

/-- the same power of two at an exponent from -149 to 128, -/
theorem pow_same (e e' : IVec S1x1 32) (he : e (ix2 0 0) = e' (ix2 0 0)) (h : -149 ≤ (e' (ix2 0 0)).toInt ∧ (e' (ix2 0 0)).toInt ≤ 128) :
    powOf up c e (ix2 0 0) = powRef up c e' (ix2 0 0) := by
  have hm : IntOp.minsi (e' (ix2 0 0)) 128#32 = e' (ix2 0 0) := by
    have h128 : (128#32 : BitVec 32).toInt = 128 := by decide
    unfold IntOp.minsi
    split
    · rfl
    · rename_i h1
      rw [← BitVec.toInt_inj, h128]
      have h2 : ¬(e' (ix2 0 0)).toInt < 128 := by simpa [BitVec.slt, h128] using h1
      omega
  unfold powOf powRef
  pointwise
  rw [he]
  refine (T.pow_eq (e' (ix2 0 0)) h.1 _ (by simp [Ideal.ofBits, Ideal.ieee])).trans ?_
  rw [hm]
  rfl

/-- and the same at its negative. -/
theorem inv_same (e e' : IVec S1x1 32) (he : e (ix2 0 0) = e' (ix2 0 0)) (h : -149 ≤ (e' (ix2 0 0)).toInt ∧ (e' (ix2 0 0)).toInt ≤ 128) :
    powOf up c (negi e) (ix2 0 0) = powRef up c (negOf e') (ix2 0 0) := by
  have hn : (-(e' (ix2 0 0)) : BitVec 32).toInt = -(e' (ix2 0 0)).toInt := by
    refine BitVec.toInt_neg_of_ne_intMin fun hh => ?_
    rw [hh] at h
    exact absurd h (by decide)
  unfold powOf powRef negOf
  pointwise
  rw [he]
  exact T.pow_eq (-(e' (ix2 0 0))) (by omega) _ (by simp [Ideal.ofBits, Ideal.ieee])

end K
-- ==== Proof.K.MathTable.lean ====
module

public import proofs.«01_k».proof.Proof.K.MathExp
public import proofs.«01_k».proof.ReferenceIdeal

/-!
The reference's literal tables are tables of powers of two.
-/

@[expose] public section

-- facts of the literals, decided entry by entry
set_option maxRecDepth 65536

noncomputable section

namespace K.Ref

open Cert.ReferenceIdeal Idealize.ShloMosaic

/-- The place of an entry in its list. -/
theorem rowMajor_278 (k : Fin 278) : S1x278.rowMajor (ix2 0 k) = k := by
  apply Fin.ext
  rw [Shape.rowMajor_val_two]
  exact Nat.zero_add _

/-- The powers' words are no NaNs and have no sign. -/
theorem lit1_plain (k : Fin 278) : ¬(TotalOrder.expo 8 23 (lit1 k) = 2 ^ 8 - 1 ∧ TotalOrder.frac 23 (lit1 k) ≠ 0) ∧ TotalOrder.sign 8 23 (lit1 k) = false := by
  revert k
  decide +kernel

/-- The powers' words increase. -/
theorem lit1_up (k : Fin 277) : TotalOrder.mag 8 23 (lit1 k.castSucc) < TotalOrder.mag 8 23 (lit1 k.succ) := by
  revert k
  decide +kernel

/-- The lower ends are the upper ends one place on. -/
theorem lit0_succ (k : Fin 277) : lit0 k.succ = lit1 k.castSucc := by
  revert k
  decide +kernel

/-- The exponents run from -149. -/
theorem lit2_exp (k : Fin 278) : (lit2 k).toInt = (k.val : Int) - 149 := by
  revert k
  decide +kernel

/-- A power's word denotes its magnitude. -/
theorem up_abs (k : Fin 278) : Ideal.ofBits .f32 (lit1 k) = TotalOrder.absVal 8 23 (lit1 k) := by
  show Ideal.ieee 8 23 (lit1 k) = _
  rw [TotalOrder.ieee_eq_signed_absVal (lit1_plain k).1, (lit1_plain k).2]
  rfl

/-- The three literals are such tables. -/
theorem lits : IsTable (fun k => Ideal.ofBits .f32 (lit0 k)) (fun k => Ideal.ofBits .f32 (lit1 k)) lit2 where
  mono := Fin.monotone_iff_le_succ.2 fun k => by
    rw [up_abs, up_abs]
    exact ((TotalOrder.absVal_lt_absVal_iff (lit1_plain _).1 (lit1_plain _).1).2 (lit1_up k)).le
  nonneg := by rw [up_abs]; exact TotalOrder.absVal_nonneg _
  top := by
    show Ideal.ofBits .f32 0x7F800000#32 = ⊤
    simp [Ideal.ofBits, Ideal.ieee]
  low_zero := by
    show Ideal.ofBits .f32 0x00000000#32 = 0
    simp [Ideal.ofBits, Ideal.ieee]
  low_succ := fun k => congrArg (Ideal.ofBits .f32) (lit0_succ k)
  exp := lit2_exp

end K.Ref
-- ==== Proof.K.MathResReferenceIdeal.lean ====
module

public import proofs.«01_k».proof.Proof.K.MathHostReferenceIdeal
public import proofs.«01_k».proof.Proof.K.MathTable
public import Idealize.ShloMosaic.Lib.Pipeline.ValueKit

/-!
The reference's three results over the extended reals, as formulas of its arguments.
-/

@[expose] public section

-- the operations are read off literal lists, one after the other
set_option maxRecDepth 65536

noncomputable section

namespace K.Ref

open Cert.ReferenceIdeal Cert.ReferenceIdeal.Gen

open Idealize.ShloMosaic
open Idealize.ShloMosaic.TcCoe Idealize.ShloMosaic.Tactic
open Idealize.SL Idealize.SL.Sem
open Idealize.ShloMosaic.StableHlo
open Idealize.ShloMosaic.Pipeline (Dat Cfg Window BodyObligation cellOf)

variable (W : Valuation τ sig (Elt Ideal))

/-! ## What later operations leave alone -/

/-- The operations after the first 27 leave dgamma alone. -/
theorem keep_v21 : after hostOps0_8 (after hostOps0_7 (after hostOps0_6 (after hostOps0_5 (after hostOps0_4 (after hostOps0_3 (after hostOps0_2 (after hostOps0_1
    (after (hostOps0.drop 28) W)))))))) main_v21 = W main_v21 := by
  simp only [List.drop_succ_cons, List.drop_zero]
  after_reads_simp

/-- Those after the first 24 leave dx alone, -/
theorem keep_v19 : after hostOps0_8 (after hostOps0_7 (after hostOps0_6 (after hostOps0_5 (after hostOps0_4 (after hostOps0_3 (after hostOps0_2 (after hostOps0_1
    (after (hostOps0.drop 25) W)))))))) main_v19 = W main_v19 := by
  simp only [List.drop_succ_cons, List.drop_zero]
  after_reads_simp

/-- the lower ends hold their literal, -/
theorem low_after32 : lowW (after (hostOps0.take 32) W) = fun i => Ideal.ofBits .f32 (lit0 (S1x278.rowMajor i)) := by
  unfold lowW
  simp only [List.take_succ_cons, List.take_zero]
  after_reads_simp
  rfl
/-- the powers of two theirs -/
theorem tab_after32 : tabW (after (hostOps0.take 32) W) = fun i => Ideal.ofBits .f32 (lit1 (S1x278.rowMajor i)) := by
  unfold tabW
  simp only [List.take_succ_cons, List.take_zero]
  after_reads_simp
  rfl
/-- and the exponents theirs; -/
theorem ctab_after32 : ctabW (after (hostOps0.take 32) W) = fun i => lit2 (S1x278.rowMajor i) := by
  unfold ctabW
  simp only [List.take_succ_cons, List.take_zero]
  after_reads_simp
  rfl

/-- finding the exponent leaves the powers of two alone -/
theorem tab_keep : tabW (after hostOps0_3 (after hostOps0_2 (after hostOps0_1 (after (hostOps0.drop 32) W)))) = tabW W := by
  unfold tabW
  simp only [List.drop_succ_cons, List.drop_zero]
  after_reads_simp
/-- and the exponents. -/
theorem ctab_keep : ctabW (after hostOps0_3 (after hostOps0_2 (after hostOps0_1 (after (hostOps0.drop 32) W)))) = ctabW W := by
  unfold ctabW
  simp only [List.drop_succ_cons, List.drop_zero]
  after_reads_simp

/-! ## The results -/

variable (m : (ℓ : Loc nD τ sig) → Buf (Elt Ideal) ℓ)

/-- A device's arrays as launched. -/
abbrev mem0 (c : Dev nD) : Valuation τ sig (Elt Ideal) := fun b => m (c, b)

/-- The arguments by rows and lanes. -/
def xM (c : Dev nD) : Fin 4096 → Fin 27648 → EReal := xW (mem0 m c)
/-- dy by rows and lanes. -/
def dyM (c : Dev nD) : Fin 4096 → Fin 27648 → EReal := dyW (mem0 m c)
/-- gamma by lanes. -/
def gM (c : Dev nD) : Fin 27648 → EReal := gW (mem0 m c)
/-- rstd by rows. -/
def rM (c : Dev nD) : Fin 4096 → EReal := rW (mem0 m c)

/-- The tables: the lower ends, -/
def lowR : FVec Ideal S1x278 .f32 := fun i => Ideal.ofBits .f32 (lit0 (S1x278.rowMajor i))
/-- the powers of two -/
def tabR : FVec Ideal S1x278 .f32 := fun i => Ideal.ofBits .f32 (lit1 (S1x278.rowMajor i))
/-- and their exponents. -/
def ctabR : IVec S1x278 32 := fun i => lit2 (S1x278.rowMajor i)

/-- They are tables of powers of two. -/
theorem isTable : IsTable (at278 lowR) (at278 tabR) (at278 ctabR) := by
  have h0 : at278 lowR = fun k => Ideal.ofBits .f32 (lit0 k) := funext fun k => congrArg (fun k => Ideal.ofBits .f32 (lit0 k)) (rowMajor_278 k)
  have h1 : at278 tabR = fun k => Ideal.ofBits .f32 (lit1 k) := funext fun k => congrArg (fun k => Ideal.ofBits .f32 (lit1 k)) (rowMajor_278 k)
  have h2 : at278 ctabR = lit2 := funext fun k => congrArg lit2 (rowMajor_278 k)
  rw [h0, h1, h2]
  exact lits

/-- The greatest of |dx|, as the reference finds it. -/
def aM (c : Dev nD) : FVec Ideal K.S1x1 .f32 := aR (after ((hostOps0.drop 18).take 7) (after (hostOps0.take 18) (mem0 m c)))

/-- A least upper bound over batches and places is one over rows. -/
theorem isAmax_of (x dy : Fin 4096 → Fin 27648 → EReal) (g : Fin 27648 → EReal) (r : Fin 4096 → EReal) (a : EReal)
    (dx : A3.Idx → EReal) (h : ∀ u, a ≤ u ↔ negInf ≤ u ∧ ∀ b s L, eabs (dx (ix3 b s L)) ≤ u)
    (hd : ∀ b s L, dx (ix3 b s L) = spDx x dy g r (flat b s) L) : IsAmax x dy g r a := by
  intro u
  rw [h]
  refine and_congr_right fun _ => ⟨fun h ρ L => ?_, fun h b s L => ?_⟩
  · have h1 := h (rb ρ) (rs ρ) L
    rw [hd, flat_rb_rs] at h1
    exact h1
  · rw [hd]
    exact h _ _

/-- It is their least upper bound. -/
theorem aM_isAmax (c : Dev nD) : IsAmax (xM m c) (dyM m c) (gM m c) (rM m c) (aM m c (ix2 0 0)) := by
  exact isAmax_of _ _ _ _ _ _ (aR_le (after ((hostOps0.drop 18).take 7) (after (hostOps0.take 18) (mem0 m c)))) (ref_v19 (mem0 m c))

/-- The reference's dgamma. -/
theorem res_dg (c : Dev nD) (L : Fin 27648) :
    (Gen.V m c main_v21 : FVec Ideal S27648 .f32) (ix1 L) = spDg (xM m c) (dyM m c) (rM m c) L :=
  (congrFun (keep_v21 (after (hostOps0.take 28) (mem0 m c))) (ix1 L)).trans (ref_v21 (mem0 m c) L)

/-- The reference's dx. -/
theorem res_dx (c : Dev nD) (b : Fin 2) (s : Fin 2048) (L : Fin 27648) :
    (Gen.V m c main_v19 : FVec Ideal S2x2048x27648 .f32) (ix3 b s L) = spDx (xM m c) (dyM m c) (gM m c) (rM m c) (flat b s) L :=
  (congrFun (keep_v19 (after ((hostOps0.drop 18).take 7) (after (hostOps0.take 18) (mem0 m c)))) (ix3 b s L)).trans
    (ref_v19 (mem0 m c) b s L)

/-- The arrays once the exponent is found. -/
def mem1 (c : Dev nD) : Valuation τ sig (Elt Ideal) :=
  after hostOps0_3 (after hostOps0_2 (after hostOps0_1 (after (hostOps0.drop 32) (after (hostOps0.take 32) (mem0 m c)))))

/-- They hold the powers of two, -/
theorem tab_mem1 (c : Dev nD) : tabW (mem1 m c) = tabR := (tab_keep _).trans (tab_after32 _)
/-- the exponents, -/
theorem ctab_mem1 (c : Dev nD) : ctabW (mem1 m c) = ctabR := (ctab_keep _).trans (ctab_after32 _)
/-- and the exponent of the greatest |dx|. -/
theorem e_mem1 (c : Dev nD) : (mem1 m c main_v41 : IVec K.S1x1 32) = expRef lowR tabR ctabR (aM m c) := by
  refine (ref_eOf (after (hostOps0.take 32) (mem0 m c))).trans ?_
  rw [low_after32, tab_after32, ctab_after32]
  rfl

/-- The reference's scale, -/
theorem res_scale (c : Dev nD) :
    (Gen.V m c main_v55 : FVec Ideal S1x1x1 .f32) (ix3 0 0 0) = powRef tabR ctabR (expRef lowR tabR ctabR (aM m c)) (ix2 0 0) := by
  refine (ref_scale (mem1 m c)).trans ?_
  rw [tab_mem1, ctab_mem1, e_mem1]

/-- and its inverse. -/
theorem res_inv (c : Dev nD) :
    (Gen.V m c main_v56 : FVec Ideal S1x1x1 .f32) (ix3 0 0 0) = powRef tabR ctabR (negOf (expRef lowR tabR ctabR (aM m c))) (ix2 0 0) := by
  refine (ref_inv (mem1 m c)).trans ?_
  rw [tab_mem1, ctab_mem1, e_mem1]

/-! ## The pallas_call's array -/

/-- The one grid point. -/
def t0 : Fin cfg0.N := ⟨0, by decide⟩

/-- An element's code. -/
theorem pay_apply (x : FVec Ideal S2x2048x27648 .f32) (y : FVec Ideal S1x1x1 .f32) (b : Fin 2) (s : Fin 2048) (L : Fin 27648) :
    (k0_pay1 (F := Ideal) x y) (ix3 b s L) = clip (x (ix3 b s L) * y (ix3 0 0 0)) := by
  unfold k0_pay1 clip
  pointwise

/-- The codes of a whole block. -/
theorem out_eq (x : FVec Ideal S2x2048x27648 .f32) (y : FVec Ideal S1x1x1 .f32) (b : Fin 2) (s : Fin 2048) (L : Fin 27648) :
    (out0_2 (F := Ideal) x y) (ix3 b s L) = clip (x (ix3 b s L) * y (ix3 0 0 0)) := by
  refine Eq.trans ?_ (pay_apply x y b s L)
  unfold out0_2
  rw [View.canon_unit_zero (by decide), View.ld_unit_zero (by decide), View.ld_unit_zero (by decide)]

/-- A block at index zero starts at zero. -/
theorem ix_zero (i n l : ℕ) (h : i = 0) : i * n + l = l := by rw [h]; omega

/-- The blocks the call reads are its whole arrays. -/
theorem read_0 (c : Dev nD) (A : (b : Ref sig .tc) → Buf (Elt Ideal) ((c : Thread nD τ).loc b)) :
    ((cfg0.win 0).blk t0).view.read (Elt Ideal) (A (Pipeline.arrRef spec0 0)) = A main_v19 :=
  funext fun y => congrArg (A main_v19) (funext fun a => Fin.ext ((Window.rect_emb_val win0_0 t0 y a).trans (ix_zero _ _ _ rfl)))
/-- The same of the inverse scale. -/
theorem read_1 (c : Dev nD) (A : (b : Ref sig .tc) → Buf (Elt Ideal) ((c : Thread nD τ).loc b)) :
    ((cfg0.win 1).blk t0).view.read (Elt Ideal) (A (Pipeline.arrRef spec0 1)) = A main_v56 :=
  funext fun y => congrArg (A main_v56) (funext fun a => Fin.ext ((Window.rect_emb_val win0_1 t0 y a).trans (ix_zero _ _ _ rfl)))
/-- The call's first operand is dx. -/
theorem iblk_0 (c : Dev nD) : iblk (F := Ideal) m c 0 t0 = Gen.V m c main_v19 := read_0 c (Gen.V m c)
/-- The call's second operand is the inverse scale. -/
theorem iblk_1 (c : Dev nD) : iblk (F := Ideal) m c 1 t0 = Gen.V m c main_v56 := read_1 c (Gen.V m c)

/-- The codes' array. -/
theorem codes_array (c : Dev nD) :
    (dats (F := Ideal) m 0 c).arrAt 2 cfg0.N = (out0_2 (F := Ideal) (Gen.V m c main_v19) (Gen.V m c main_v56) : FVec Ideal S2x2048x27648 .fp8e5m2) := by
  refine (dats (F := Ideal) m 0 c).arrAt_eq_of_after_last 2 t0 (by decide +kernel) _ fun j => ?_
  rw [after0_2, iblk_0, iblk_1]
  generalize out0_2 (F := Ideal) (Gen.V m c main_v19) (Gen.V m c main_v56) = G
  rfl

/-- The reference's codes. -/
theorem res_codes (c : Dev nD) (b : Fin 2) (s : Fin 2048) (L : Fin 27648) :
    ((dats (F := Ideal) m 0 c).arrAt 2 cfg0.N : FVec Ideal S2x2048x27648 .fp8e5m2) (ix3 b s L)
      = clip (spDx (xM m c) (dyM m c) (gM m c) (rM m c) (flat b s) L * powRef tabR ctabR (negOf (expRef lowR tabR ctabR (aM m c))) (ix2 0 0)) := by
  refine (congrFun (codes_array m c) _).trans ((out_eq _ _ b s L).trans ?_)
  rw [res_dx, res_inv]

end K.Ref
-- ==== Proof.K.MathSame.lean ====
module

public import proofs.«01_k».proof.Proof.K.MathResKernelIdeal
public import proofs.«01_k».proof.Proof.K.MathResReferenceIdeal

/-!
The two programs' results are the same, their arguments being the same.
-/

@[expose] public section

noncomputable section

namespace K.Same

open Idealize.ShloMosaic
open Idealize.ShloMosaic.TcCoe Idealize.ShloMosaic.Tactic
open Idealize.SL Idealize.SL.Sem

/-- An index is its coordinates. -/
theorem eta1 {n0 : ℕ} (y : (⟨1, ![n0]⟩ : Shape).Idx) : y = ix1 (y 0) := funext fun a => match a with | 0 => rfl
/-- The same of two axes. -/
theorem eta2 {n0 n1 : ℕ} (y : (⟨2, ![n0, n1]⟩ : Shape).Idx) : y = ix2 (y 0) (y 1) := funext fun a => match a with | 0 => rfl | 1 => rfl
/-- The same of three axes. -/
theorem eta3 {n0 n1 n2 : ℕ} (y : (⟨3, ![n0, n1, n2]⟩ : Shape).Idx) : y = ix3 (y 0) (y 1) (y 2) :=
  funext fun a => match a with | 0 => rfl | 1 => rfl | 2 => rfl

/-- Arrays equal at every index written out are equal. -/
theorem ext1 {n0 : ℕ} {α : Type} {f g : (⟨1, ![n0]⟩ : Shape).Idx → α} (h : ∀ a, f (ix1 a) = g (ix1 a)) : f = g :=
  funext fun y => by rw [eta1 y]; exact h _
/-- The same of two axes. -/
theorem ext2 {n0 n1 : ℕ} {α : Type} {f g : (⟨2, ![n0, n1]⟩ : Shape).Idx → α} (h : ∀ a b, f (ix2 a b) = g (ix2 a b)) : f = g :=
  funext fun y => by rw [eta2 y]; exact h _ _
/-- The same of three axes. -/
theorem ext3 {n0 n1 n2 : ℕ} {α : Type} {f g : (⟨3, ![n0, n1, n2]⟩ : Shape).Idx → α} (h : ∀ a b c, f (ix3 a b c) = g (ix3 a b c)) : f = g :=
  funext fun y => by rw [eta3 y]; exact h _ _ _
/-- Arrays of one element. -/
theorem ext11 {α : Type} {f g : S1x1.Idx → α} (h : f (ix2 0 0) = g (ix2 0 0)) : f = g :=
  ext2 fun a b => by rw [Fin.fin_one_eq_zero a, Fin.fin_one_eq_zero b]; exact h
/-- The same of three axes. -/
theorem ext111 {α : Type} {f g : (⟨3, ![1, 1, 1]⟩ : Shape).Idx → α} (h : f (ix3 0 0 0) = g (ix3 0 0 0)) : f = g :=
  ext3 fun a b c => by rw [Fin.fin_one_eq_zero a, Fin.fin_one_eq_zero b, Fin.fin_one_eq_zero c]; exact h

/-- The two programs' tables are one. -/
theorem tab_eq : Ideal.tabK = Ref.tabR := rfl
/-- So are their tables of exponents. -/
theorem ctab_eq : Ideal.ctabK = Ref.ctabR := rfl

variable (m : (ℓ : Loc Cert.KernelIdeal.nD Cert.KernelIdeal.τ Cert.KernelIdeal.sig) → Buf (Elt Idealize.ShloMosaic.Ideal) ℓ)
  (m' : (ℓ : Loc Cert.ReferenceIdeal.nD Cert.ReferenceIdeal.τ Cert.ReferenceIdeal.sig) → Buf (Elt Idealize.ShloMosaic.Ideal) ℓ)
  (c : Dev Cert.KernelIdeal.nD)

/-- The arguments, by rows and lanes, agree. -/
def Args : Prop := Ideal.xM m c = Ref.xM m' c ∧ Ideal.dyM m c = Ref.dyM m' c ∧ Ideal.gM m c = Ref.gM m' c ∧ Ideal.rM m c = Ref.rM m' c

/-- If the four arguments are equal, they agree by rows and lanes. -/
theorem args_of
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Args m m' c :=
  ⟨(congrArg rows h0).symm, (congrArg rows h1).symm, (congrArg lanes h2).symm, (congrArg rowsR h3).symm⟩

variable (h : Args m m' c)
include h

/-- Both find the same greatest |dx|. -/
theorem a_eq : Ideal.aK m c = Ref.aM m' c := by
  obtain ⟨hx, hdy, hg, hr⟩ := h
  refine ext11 (IsAmax.unique _ _ _ _ (Ideal.aK_isAmax m c) ?_)
  rw [hx, hdy, hg, hr]
  exact Ref.aM_isAmax m' c

/-- The same dgamma, -/
theorem dg_eq : (Cert.KernelIdeal.Gen.V11 m (Ideal.outs m) c Cert.KernelIdeal.main_v38 : FVec Idealize.ShloMosaic.Ideal A1 .f32)
    = Cert.ReferenceIdeal.Gen.V m' c Cert.ReferenceIdeal.main_v21 := by
  obtain ⟨hx, hdy, hg, hr⟩ := h
  refine ext1 fun L => (Ideal.res_dg m c L).trans ?_
  rw [hx, hdy, hr]
  exact (Ref.res_dg m' c L).symm

/-- the same codes -/
theorem codes_eq : (Cert.KernelIdeal.Gen.V11 m (Ideal.outs m) c Cert.KernelIdeal.main_v39 : FVec Idealize.ShloMosaic.Ideal A3 .fp8e5m2)
    = (Cert.ReferenceIdeal.Gen.dats (F := Idealize.ShloMosaic.Ideal) m' 0 c).arrAt 2 Cert.ReferenceIdeal.cfg0.N := by
  have ha := a_eq m m' c h
  obtain ⟨hx, hdy, hg, hr⟩ := h
  refine ext3 fun b s L => (Ideal.res_codes m c b s L).trans ?_
  rw [hx, hdy, hg, hr, ha, tab_eq, ctab_eq, inv_same Ref.isTable _ _ (exp_same Ref.isTable _) (exp_within Ref.isTable _)]
  exact (Ref.res_codes m' c b s L).symm

/-- and the same scale. -/
theorem scale_eq : (Cert.KernelIdeal.Gen.V11 m (Ideal.outs m) c Cert.KernelIdeal.main_v40 : FVec Idealize.ShloMosaic.Ideal ⟨3, ![1, 1, 1]⟩ .f32)
    = Cert.ReferenceIdeal.Gen.V m' c Cert.ReferenceIdeal.main_v55 := by
  refine ext111 ((Ideal.res_scale m c).trans ?_)
  rw [a_eq m m' c h, tab_eq, ctab_eq, pow_same Ref.isTable _ _ (exp_same Ref.isTable _) (exp_within Ref.isTable _)]
  exact (Ref.res_scale m' c).symm

omit h

variable (ρ : Dev Cert.ReferenceIdeal.nD → PrngReg)

open Cert.ReferenceIdeal Cert.ReferenceIdeal.Gen in
/-- The reference runs, leaves its arguments alone and ends with its results where they are claimed. -/
theorem ref_run : θ_run (Cert.ReferenceIdeal.defs (F := Idealize.ShloMosaic.Ideal)) (onTc (τ := Cert.ReferenceIdeal.τ) (Cert.ReferenceIdeal.main (F := Idealize.ShloMosaic.Ideal)))
    ⟨m', fun _ => 0, ρ⟩ (fun r => ∀ c : Dev Cert.ReferenceIdeal.nD,
      r.2.mem ((c.tc : Thread nD τ).loc main_v21) = Gen.V m' c main_v21
      ∧ r.2.mem ((c.tc : Thread nD τ).loc main_v57) = (dats (F := Idealize.ShloMosaic.Ideal) m' 0 c).arrAt 2 cfg0.N
      ∧ r.2.mem ((c.tc : Thread nD τ).loc main_v55) = Gen.V m' c main_v55
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) :=
  (θ_run Cert.ReferenceIdeal.defs _ _).mono (fun _ h c => ⟨(h c).2 main_v21 (Pipeline.mem_restRefs_of main_v21 (by decide) (by decide)),
      (h c).1 2,
      (h c).2 main_v55 (Pipeline.mem_restRefs_of main_v55 (by decide) (by decide)),
      ((h c).2 main_arg0 (Pipeline.mem_restRefs_of main_arg0 (by decide) (by decide))).trans (V_main_arg0 m' c),
      ((h c).2 main_arg1 (Pipeline.mem_restRefs_of main_arg1 (by decide) (by decide))).trans (V_main_arg1 m' c),
      ((h c).2 main_arg2 (Pipeline.mem_restRefs_of main_arg2 (by decide) (by decide))).trans (V_main_arg2 m' c),
      ((h c).2 main_arg3 (Pipeline.mem_restRefs_of main_arg3 (by decide) (by decide))).trans (V_main_arg3 m' c)⟩) (run_main m' ρ)

end K.Same
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.K.RunKernel
public import proofs.«01_k».proof.Proof.K.MathSame
public import Idealize.ShloMosaic.Adequacy
public import Idealize.ShloMosaic.Init

@[expose] public section

noncomputable section

namespace Cert.Proof

open Idealize.ShloMosaic Idealize.ShloMosaic.TcCoe Idealize.SL.Sem

/-- The kernel over the extended reals and the reference give the same three results. -/
theorem algebraic : Cert.algebraic_KernelIdeal_ReferenceIdeal (hKernelIdeal := Cert.KernelIdeal.Gen.facts)
    (hReferenceIdeal := Cert.ReferenceIdeal.Gen.facts) := by
  intro m g m' g' _ hargs
  have hA : ∀ c, K.Same.Args m m' c := fun c => K.Same.args_of m m' c (hargs c).1 (hargs c).2.1 (hargs c).2.2.1 (hargs c).2.2.2
  refine ⟨fun c => Cert.KernelIdeal.Gen.V11 m (K.Ideal.outs m) c Cert.KernelIdeal.main_v38,
    fun c => Cert.KernelIdeal.Gen.V11 m (K.Ideal.outs m) c Cert.KernelIdeal.main_v39,
    fun c => Cert.KernelIdeal.Gen.V11 m (K.Ideal.outs m) c Cert.KernelIdeal.main_v40, ?_, ?_⟩
  · exact (θ_run Cert.KernelIdeal.defs _ _).mono (fun _ h c => ⟨(h.1 c).2.1, (h.1 c).2.2.1, (h.1 c).2.2.2, (h.1 c).1⟩) (K.Ideal.run m g)
  · exact (θ_run Cert.ReferenceIdeal.defs _ _).mono (fun _ h c => ⟨(h c).1.trans (K.Same.dg_eq m m' c (hA c)).symm,
      (h c).2.1.trans (K.Same.codes_eq m m' c (hA c)).symm, (h c).2.2.1.trans (K.Same.scale_eq m m' c (hA c)).symm, (h c).2.2.2⟩)
      (K.Same.ref_run m' g')

/-- The kernel as printed, its idealization and the reference each run, end with their arguments unchanged and every
    counter at zero; the idealization rewrites no operation; and the kernel over the extended reals gives the reference's results. -/
theorem claim : Cert.Claim := ⟨Cert.Kernel.Gen.facts, Cert.KernelIdeal.Gen.facts, Cert.ReferenceIdeal.Gen.facts,
  fun m g _ => K.Bits.frame m g, fun m g _ => K.Ideal.frame m g, fun m g _ => Cert.ReferenceIdeal.Gen.frame m g, trivial, algebraic⟩

end Cert.Proof

end
